-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 2048]⟩ ⟨3, ![4, 2048, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 2048]⟩ (Layout.meshBlock [2, 2, 4] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x2048 : Shape := ⟨3, ![1, 2048, 2048]⟩
abbrev S2048x512 : Shape := ⟨2, ![2048, 512]⟩
abbrev S6x512x256 : Shape := ⟨3, ![6, 512, 256]⟩
abbrev S512x512 : Shape := ⟨2, ![512, 512]⟩
abbrev S6 : Shape := ⟨1, ![6]⟩
abbrev S_ : Shape := ⟨0, ![]⟩
abbrev S1 : Shape := ⟨1, ![1]⟩
abbrev S1x512x256 : Shape := ⟨3, ![1, 512, 256]⟩
abbrev S512x256 : Shape := ⟨2, ![512, 256]⟩

abbrev nBuf : Space → Nat
  | .hbm => 2
  | .vmem => 4
  | .smem => 0
  | _ => 0

abbrev bufTy : (tb : Table) → Fin (tcTables nBuf tb) → BufTy
  | .hbm, ⟨0, _⟩ => ⟨S1x2048x2048, .f32⟩
  | .hbm, ⟨1, _⟩ => ⟨S2048x512, .f32⟩
  | .local _ .vmem, ⟨0, _⟩ => ⟨S1x2048x2048, .f32⟩
  | .local _ .vmem, ⟨1, _⟩ => ⟨S2048x512, .f32⟩
  | .local _ .vmem, ⟨2, _⟩ => ⟨S6x512x256, .f32⟩
  | .local _ .vmem, ⟨3, _⟩ => ⟨S512x512, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_13 : BitVec 32 := 8#32
  let v23 : BitVec 32 := Scalar.muli v2 c8_i32_13
  let v24 : BitVec 32 := Scalar.addi c0_i32 v23
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_14 : BitVec 32 := 4#32
  let v25 : BitVec 32 := Scalar.muli v5 c4_i32_14
  let v26 : BitVec 32 := Scalar.addi v24 v25
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let v13 : BitVec 32 := Scalar.remsi v12 c4_i32_4
  let c1_i32_15 : BitVec 32 := 1#32
  let v27 : BitVec 32 := Scalar.muli v13 c1_i32_15
  let v28 : BitVec 32 := Scalar.addi v26 v27
  v28.toNat
def k0_dev2 (d0 : Dev nD) : Nat :=
  let c0_i32_18 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_17 : BitVec 32 := 8#32
  let v29 : BitVec 32 := Scalar.muli v2 c8_i32_17
  let v30 : BitVec 32 := Scalar.addi c0_i32_18 v29
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_19 : BitVec 32 := 4#32
  let v31 : BitVec 32 := Scalar.muli v5 c4_i32_19
  let v32 : BitVec 32 := Scalar.addi v30 v31
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_5 : BitVec 32 := 2#32
  let v14 : BitVec 32 := Scalar.addi v8 c2_i32_5
  let c4_i32_6 : BitVec 32 := 4#32
  let v15 : BitVec 32 := Scalar.remsi v14 c4_i32_6
  let c1_i32_20 : BitVec 32 := 1#32
  let v33 : BitVec 32 := Scalar.muli v15 c1_i32_20
  let v34 : BitVec 32 := Scalar.addi v32 v33
  v34.toNat
def k0_dev3 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v35 : BitVec 32 := Scalar.muli v2 c8_i32_22
  let v36 : BitVec 32 := Scalar.addi c0_i32_23 v35
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_24 : BitVec 32 := 4#32
  let v37 : BitVec 32 := Scalar.muli v5 c4_i32_24
  let v38 : BitVec 32 := Scalar.addi v36 v37
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 32 := Scalar.addi v8 c3_i32
  let c4_i32_7 : BitVec 32 := 4#32
  let v17 : BitVec 32 := Scalar.remsi v16 c4_i32_7
  let c1_i32_25 : BitVec 32 := 1#32
  let v39 : BitVec 32 := Scalar.muli v17 c1_i32_25
  let v40 : BitVec 32 := Scalar.addi v38 v39
  v40.toNat
def k0_dev4 (d0 : Dev nD) : Nat :=
  let c0_i32_28 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v18 : BitVec 32 := Scalar.subi c1_i32_8 v2
  let c8_i32_27 : BitVec 32 := 8#32
  let v41 : BitVec 32 := Scalar.muli v18 c8_i32_27
  let v42 : BitVec 32 := Scalar.addi c0_i32_28 v41
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_29 : BitVec 32 := 4#32
  let v43 : BitVec 32 := Scalar.muli v5 c4_i32_29
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v45 : BitVec 32 := Scalar.muli v8 c1_i32_30
  let v46 : BitVec 32 := Scalar.addi v44 v45
  v46.toNat
def k0_dev5 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v47 : BitVec 32 := Scalar.muli v2 c8_i32_32
  let v48 : BitVec 32 := Scalar.addi c0_i32_33 v47
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let c4_i32_34 : BitVec 32 := 4#32
  let v49 : BitVec 32 := Scalar.muli v19 c4_i32_34
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v51 : BitVec 32 := Scalar.muli v8 c1_i32_35
  let v52 : BitVec 32 := Scalar.addi v50 v51
  v52.toNat
def k0_dev6 (d0 : Dev nD) : Nat :=
  let c0_i32_38 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_10 v2
  let c8_i32_37 : BitVec 32 := 8#32
  let v53 : BitVec 32 := Scalar.muli v20 c8_i32_37
  let v54 : BitVec 32 := Scalar.addi c0_i32_38 v53
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v21 : BitVec 32 := Scalar.subi c1_i32_11 v5
  let c4_i32_39 : BitVec 32 := 4#32
  let v55 : BitVec 32 := Scalar.muli v21 c4_i32_39
  let v56 : BitVec 32 := Scalar.addi v54 v55
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v57 : BitVec 32 := Scalar.muli v8 c1_i32_40
  let v58 : BitVec 32 := Scalar.addi v56 v57
  v58.toNat
def k0_off1 (d0 : Dev nD) (c1_i32_41 : BitVec 32) (c0_i32_44 : BitVec 32) : Fin 3 → Nat :=
  let c0_i32_45 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v59 : BitVec 32 := Scalar.addi v8 c1_i32_41
  let c4_i32_42 : BitVec 32 := 4#32
  let v60 : BitVec 32 := Scalar.remsi v59 c4_i32_42
  let c512_i32_43 : BitVec 32 := 512#32
  let v61 : BitVec 32 := Scalar.muli v60 c512_i32_43
  let v62 : BitVec 32 := Scalar.addi v61 c0_i32_44
  ![0, v11.toNat, v62.toNat]
def k0_dev7 (d0 : Dev nD) : Nat :=
  let c0_i32_50 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_49 : BitVec 32 := 8#32
  let v63 : BitVec 32 := Scalar.muli v2 c8_i32_49
  let v64 : BitVec 32 := Scalar.addi c0_i32_50 v63
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_51 : BitVec 32 := 4#32
  let v65 : BitVec 32 := Scalar.muli v5 c4_i32_51
  let v66 : BitVec 32 := Scalar.addi v64 v65
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v59 : BitVec 32 := Scalar.addi v8 c1_i32_41
  let c4_i32_42 : BitVec 32 := 4#32
  let v60 : BitVec 32 := Scalar.remsi v59 c4_i32_42
  let c1_i32_52 : BitVec 32 := 1#32
  let v67 : BitVec 32 := Scalar.muli v60 c1_i32_52
  let v68 : BitVec 32 := Scalar.addi v66 v67
  v68.toNat
def k0_dev8 (d0 : Dev nD) : Nat :=
  let c0_i32_64 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_63 : BitVec 32 := 8#32
  let v81 : BitVec 32 := Scalar.muli v2 c8_i32_63
  let v82 : BitVec 32 := Scalar.addi c0_i32_64 v81
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_65 : BitVec 32 := 4#32
  let v83 : BitVec 32 := Scalar.muli v5 c4_i32_65
  let v84 : BitVec 32 := Scalar.addi v82 v83
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_55 : BitVec 32 := 2#32
  let v77 : BitVec 32 := Scalar.addi v8 c2_i32_55
  let c4_i32_56 : BitVec 32 := 4#32
  let v78 : BitVec 32 := Scalar.remsi v77 c4_i32_56
  let c1_i32_66 : BitVec 32 := 1#32
  let v85 : BitVec 32 := Scalar.muli v78 c1_i32_66
  let v86 : BitVec 32 := Scalar.addi v84 v85
  v86.toNat
def k0_dev9 (d0 : Dev nD) : Nat :=
  let c0_i32_78 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_77 : BitVec 32 := 8#32
  let v99 : BitVec 32 := Scalar.muli v2 c8_i32_77
  let v100 : BitVec 32 := Scalar.addi c0_i32_78 v99
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_79 : BitVec 32 := 4#32
  let v101 : BitVec 32 := Scalar.muli v5 c4_i32_79
  let v102 : BitVec 32 := Scalar.addi v100 v101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_69 : BitVec 32 := 3#32
  let v95 : BitVec 32 := Scalar.addi v8 c3_i32_69
  let c4_i32_70 : BitVec 32 := 4#32
  let v96 : BitVec 32 := Scalar.remsi v95 c4_i32_70
  let c1_i32_80 : BitVec 32 := 1#32
  let v103 : BitVec 32 := Scalar.muli v96 c1_i32_80
  let v104 : BitVec 32 := Scalar.addi v102 v103
  v104.toNat
def k0_dev10 (d0 : Dev nD) : Nat :=
  let c0_i32_91 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_90 : BitVec 32 := 8#32
  let v117 : BitVec 32 := Scalar.muli v2 c8_i32_90
  let v118 : BitVec 32 := Scalar.addi c0_i32_91 v117
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_92 : BitVec 32 := 4#32
  let v119 : BitVec 32 := Scalar.muli v5 c4_i32_92
  let v120 : BitVec 32 := Scalar.addi v118 v119
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v113 : BitVec 32 := Scalar.addi v8 c1_i32_83
  let c4_i32_84 : BitVec 32 := 4#32
  let v114 : BitVec 32 := Scalar.remsi v113 c4_i32_84
  let c1_i32_93 : BitVec 32 := 1#32
  let v121 : BitVec 32 := Scalar.muli v114 c1_i32_93
  let v122 : BitVec 32 := Scalar.addi v120 v121
  v122.toNat
def k0_dev11 (d0 : Dev nD) : Nat :=
  let c0_i32_105 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_104 : BitVec 32 := 8#32
  let v135 : BitVec 32 := Scalar.muli v2 c8_i32_104
  let v136 : BitVec 32 := Scalar.addi c0_i32_105 v135
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_106 : BitVec 32 := 4#32
  let v137 : BitVec 32 := Scalar.muli v5 c4_i32_106
  let v138 : BitVec 32 := Scalar.addi v136 v137
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_96 : BitVec 32 := 2#32
  let v131 : BitVec 32 := Scalar.addi v8 c2_i32_96
  let c4_i32_97 : BitVec 32 := 4#32
  let v132 : BitVec 32 := Scalar.remsi v131 c4_i32_97
  let c1_i32_107 : BitVec 32 := 1#32
  let v139 : BitVec 32 := Scalar.muli v132 c1_i32_107
  let v140 : BitVec 32 := Scalar.addi v138 v139
  v140.toNat
def k0_dev12 (d0 : Dev nD) : Nat :=
  let c0_i32_118 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_117 : BitVec 32 := 8#32
  let v153 : BitVec 32 := Scalar.muli v2 c8_i32_117
  let v154 : BitVec 32 := Scalar.addi c0_i32_118 v153
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_119 : BitVec 32 := 4#32
  let v155 : BitVec 32 := Scalar.muli v5 c4_i32_119
  let v156 : BitVec 32 := Scalar.addi v154 v155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_110 : BitVec 32 := 3#32
  let v149 : BitVec 32 := Scalar.addi v8 c3_i32_110
  let c4_i32_111 : BitVec 32 := 4#32
  let v150 : BitVec 32 := Scalar.remsi v149 c4_i32_111
  let c1_i32_120 : BitVec 32 := 1#32
  let v157 : BitVec 32 := Scalar.muli v150 c1_i32_120
  let v158 : BitVec 32 := Scalar.addi v156 v157
  v158.toNat
def k0_off2 (d0 : Dev nD) (c0_i32_172 : BitVec 32) : Fin 3 → Nat :=
  let c0 : Index := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let v217 : Index := Scalar.indexCast v11
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_171 : BitVec 32 := 512#32
  let v215 : BitVec 32 := Scalar.muli v8 c512_i32_171
  let v216 : BitVec 32 := Scalar.addi v215 c0_i32_172
  let v218 : Index := Scalar.indexCast v216
  ![0, v217.toNat, v218.toNat]
def k0_off3 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let v233 : Index := Scalar.indexCast v11
  let c0_182 : Index := 0#32
  ![v233.toNat, 0]
def k0_off4 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c0_i32_189 : BitVec 32 := 0#32
  ![v11.toNat, 0]
def k0_dev13 (d0 : Dev nD) : Nat :=
  let c0_i32_186 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1_i32_123 : BitVec 32 := 1#32
  let v167 : BitVec 32 := Scalar.addi v10 c1_i32_123
  let c4_i32_124 : BitVec 32 := 4#32
  let v168 : BitVec 32 := Scalar.remsi v167 c4_i32_124
  let c2_i32_125 : BitVec 32 := 2#32
  let v169 : BitVec 32 := Scalar.divsi v168 c2_i32_125
  let c8_i32_185 : BitVec 32 := 8#32
  let v235 : BitVec 32 := Scalar.muli v169 c8_i32_185
  let v236 : BitVec 32 := Scalar.addi c0_i32_186 v235
  let c2_i32_126 : BitVec 32 := 2#32
  let v170 : BitVec 32 := Scalar.remsi v168 c2_i32_126
  let c4_i32_187 : BitVec 32 := 4#32
  let v237 : BitVec 32 := Scalar.muli v170 c4_i32_187
  let v238 : BitVec 32 := Scalar.addi v236 v237
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_188 : BitVec 32 := 1#32
  let v239 : BitVec 32 := Scalar.muli v8 c1_i32_188
  let v240 : BitVec 32 := Scalar.addi v238 v239
  v240.toNat
def k0_dev14 (d0 : Dev nD) : Nat :=
  let c0_i32_195 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2_i32_127 : BitVec 32 := 2#32
  let v171 : BitVec 32 := Scalar.addi v10 c2_i32_127
  let c4_i32_128 : BitVec 32 := 4#32
  let v172 : BitVec 32 := Scalar.remsi v171 c4_i32_128
  let c2_i32_129 : BitVec 32 := 2#32
  let v173 : BitVec 32 := Scalar.divsi v172 c2_i32_129
  let c8_i32_194 : BitVec 32 := 8#32
  let v247 : BitVec 32 := Scalar.muli v173 c8_i32_194
  let v248 : BitVec 32 := Scalar.addi c0_i32_195 v247
  let c2_i32_130 : BitVec 32 := 2#32
  let v174 : BitVec 32 := Scalar.remsi v172 c2_i32_130
  let c4_i32_196 : BitVec 32 := 4#32
  let v249 : BitVec 32 := Scalar.muli v174 c4_i32_196
  let v250 : BitVec 32 := Scalar.addi v248 v249
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_197 : BitVec 32 := 1#32
  let v251 : BitVec 32 := Scalar.muli v8 c1_i32_197
  let v252 : BitVec 32 := Scalar.addi v250 v251
  v252.toNat
def k0_dev15 (d0 : Dev nD) : Nat :=
  let c0_i32_204 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c3_i32_131 : BitVec 32 := 3#32
  let v175 : BitVec 32 := Scalar.addi v10 c3_i32_131
  let c4_i32_132 : BitVec 32 := 4#32
  let v176 : BitVec 32 := Scalar.remsi v175 c4_i32_132
  let c2_i32_133 : BitVec 32 := 2#32
  let v177 : BitVec 32 := Scalar.divsi v176 c2_i32_133
  let c8_i32_203 : BitVec 32 := 8#32
  let v259 : BitVec 32 := Scalar.muli v177 c8_i32_203
  let v260 : BitVec 32 := Scalar.addi c0_i32_204 v259
  let c2_i32_134 : BitVec 32 := 2#32
  let v178 : BitVec 32 := Scalar.remsi v176 c2_i32_134
  let c4_i32_205 : BitVec 32 := 4#32
  let v261 : BitVec 32 := Scalar.muli v178 c4_i32_205
  let v262 : BitVec 32 := Scalar.addi v260 v261
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v263 : BitVec 32 := Scalar.muli v8 c1_i32_206
  let v264 : BitVec 32 := Scalar.addi v262 v263
  v264.toNat
def k0_off5 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let v325 : Index := Scalar.indexCast v11
  let c256_256 : Index := 256#32
  ![v325.toNat, 256]
def k0_off6 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c256_i32_263 : BitVec 32 := 256#32
  ![v11.toNat, 256]
def k0_dev16 (d0 : Dev nD) : Nat :=
  let c0_i32_260 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1_i32_123 : BitVec 32 := 1#32
  let v167 : BitVec 32 := Scalar.addi v10 c1_i32_123
  let c4_i32_124 : BitVec 32 := 4#32
  let v168 : BitVec 32 := Scalar.remsi v167 c4_i32_124
  let c2_i32_125 : BitVec 32 := 2#32
  let v169 : BitVec 32 := Scalar.divsi v168 c2_i32_125
  let c8_i32_259 : BitVec 32 := 8#32
  let v327 : BitVec 32 := Scalar.muli v169 c8_i32_259
  let v328 : BitVec 32 := Scalar.addi c0_i32_260 v327
  let c2_i32_126 : BitVec 32 := 2#32
  let v170 : BitVec 32 := Scalar.remsi v168 c2_i32_126
  let c4_i32_261 : BitVec 32 := 4#32
  let v329 : BitVec 32 := Scalar.muli v170 c4_i32_261
  let v330 : BitVec 32 := Scalar.addi v328 v329
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_262 : BitVec 32 := 1#32
  let v331 : BitVec 32 := Scalar.muli v8 c1_i32_262
  let v332 : BitVec 32 := Scalar.addi v330 v331
  v332.toNat
def k0_dev17 (d0 : Dev nD) : Nat :=
  let c0_i32_269 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2_i32_127 : BitVec 32 := 2#32
  let v171 : BitVec 32 := Scalar.addi v10 c2_i32_127
  let c4_i32_128 : BitVec 32 := 4#32
  let v172 : BitVec 32 := Scalar.remsi v171 c4_i32_128
  let c2_i32_129 : BitVec 32 := 2#32
  let v173 : BitVec 32 := Scalar.divsi v172 c2_i32_129
  let c8_i32_268 : BitVec 32 := 8#32
  let v339 : BitVec 32 := Scalar.muli v173 c8_i32_268
  let v340 : BitVec 32 := Scalar.addi c0_i32_269 v339
  let c2_i32_130 : BitVec 32 := 2#32
  let v174 : BitVec 32 := Scalar.remsi v172 c2_i32_130
  let c4_i32_270 : BitVec 32 := 4#32
  let v341 : BitVec 32 := Scalar.muli v174 c4_i32_270
  let v342 : BitVec 32 := Scalar.addi v340 v341
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_271 : BitVec 32 := 1#32
  let v343 : BitVec 32 := Scalar.muli v8 c1_i32_271
  let v344 : BitVec 32 := Scalar.addi v342 v343
  v344.toNat
def k0_dev18 (d0 : Dev nD) : Nat :=
  let c0_i32_278 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c3_i32_131 : BitVec 32 := 3#32
  let v175 : BitVec 32 := Scalar.addi v10 c3_i32_131
  let c4_i32_132 : BitVec 32 := 4#32
  let v176 : BitVec 32 := Scalar.remsi v175 c4_i32_132
  let c2_i32_133 : BitVec 32 := 2#32
  let v177 : BitVec 32 := Scalar.divsi v176 c2_i32_133
  let c8_i32_277 : BitVec 32 := 8#32
  let v351 : BitVec 32 := Scalar.muli v177 c8_i32_277
  let v352 : BitVec 32 := Scalar.addi c0_i32_278 v351
  let c2_i32_134 : BitVec 32 := 2#32
  let v178 : BitVec 32 := Scalar.remsi v176 c2_i32_134
  let c4_i32_279 : BitVec 32 := 4#32
  let v353 : BitVec 32 := Scalar.muli v178 c4_i32_279
  let v354 : BitVec 32 := Scalar.addi v352 v353
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_280 : BitVec 32 := 1#32
  let v355 : BitVec 32 := Scalar.muli v8 c1_i32_280
  let v356 : BitVec 32 := Scalar.addi v354 v355
  v356.toNat
abbrev stage0_0 : Fin 1 → Memref sig .tc .vmem S1x2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x2048x2048 : Shape := ⟨3, ![4, 2048, 2048]⟩
abbrev S_ : Shape := ⟨0, ![]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S_, .f32⟩
  | .hbm, ⟨2, _⟩ => ⟨S2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Mesh.lean ====
/-
# The mesh: sixteen devices as four bands of four columns

Device `c` has the number `8 x + 4 y + z`. Two coordinates matter to the kernel: its *band* `p = 2 x + y`, the
quarter of the rows it reduces, and its *column* `z`, the block of the contraction it holds and the quarter of the
columns it keeps. Every remote effect of the kernel goes to another column of the same band or to another band of the
same column; both kinds are rotations, and this file states them as permutations of the devices.
-/
module

public import proofs.«01_k».proof.Proof.Gen.KernelIdeal

@[expose] public section

noncomputable section

namespace Cert.Exchange

open Cert.KernelIdeal Cert.KernelIdeal.Gen
open Idealize.ShloMosaic

/-- The band of a device: which 512 rows it reduces. -/
def band (c : Dev nD) : Fin 4 := Fin.ofNat 4 (c.val / 4)
/-- The column of a device: which block of the contraction it holds, and which 512 columns it keeps. -/
def col (c : Dev nD) : Fin 4 := Fin.ofNat 4 c.val
/-- The device of a band and a column. -/
def at_ (p z : Fin 4) : Dev nD := Fin.ofNat 16 (4 * p.val + z.val)

/-- A peer of a device: `(false, i)` is the device `i + 1` columns further in its band, `(true, i)` the device
    `i + 1` bands further in its column. -/
abbrev Peer : Type := Bool × Fin 3

/-- Where a device's peer is. -/
def go (j : Peer) (c : Dev nD) : Dev nD :=
  match j with
  | (false, i) => at_ (band c) (col c + Fin.ofNat 4 (i.val + 1))
  | (true, i) => at_ (band c + Fin.ofNat 4 (i.val + 1)) (col c)

/-- The peer that leads back. -/
def back (j : Peer) : Peer := (j.1, Fin.rev j.2)

theorem go_back : ∀ (j : Peer) (c : Dev nD), go (back j) (go j c) = c := by decide +kernel
theorem go_go_back : ∀ (j : Peer) (c : Dev nD), go j (go (back j) c) = c := by decide +kernel
theorem back_back : ∀ j : Peer, back (back j) = j := by decide
theorem band_col : ∀ (p z : Fin 4), band (at_ p z) = p ∧ col (at_ p z) = z := by decide
theorem at_band_col : ∀ c : Dev nD, at_ (band c) (col c) = c := by decide
theorem band_go_false : ∀ (i : Fin 3) (c : Dev nD), band (go (false, i) c) = band c := by decide +kernel

/-- Going to a peer is a permutation of the devices. -/
def goEquiv (j : Peer) : Dev nD ≃ Dev nD := ⟨go j, go (back j), go_back j, go_go_back j⟩

/-! ## The order of the entry signals

The signals to the other bands of the column are printed as flips of one mesh axis or both; which rotation a flip is
depends on the band. -/

/-- The peer the `n`-th of the six entry signals goes to. -/
def sigPeer (c : Dev nD) : Fin 6 → Peer
  | 0 => (false, 0)
  | 1 => (false, 1)
  | 2 => (false, 2)
  | 3 => (true, 1)
  | 4 => (true, if (band c).val % 2 = 0 then 0 else 2)
  | 5 => (true, if (band c).val % 2 = 0 then 2 else 0)

/-- The six signals go to the six peers, one each. -/
theorem sigPeer_perm : ∀ c : Dev nD, ((List.finRange 6).map (sigPeer c)).Nodup
    ∧ (Finset.univ : Finset Peer) = ((List.finRange 6).map (sigPeer c)).toFinset := by decide +kernel

/-- The device the `n`-th entry signal addresses, as the kernel computes it. -/
def sigDev (n : Fin 6) (c : Dev nD) : Dev nD :=
  match n with
  | 0 => ⟨k0_dev1 c, k0_dev1_lt c⟩
  | 1 => ⟨k0_dev2 c, k0_dev2_lt c⟩
  | 2 => ⟨k0_dev3 c, k0_dev3_lt c⟩
  | 3 => ⟨k0_dev4 c, k0_dev4_lt c⟩
  | 4 => ⟨k0_dev5 c, k0_dev5_lt c⟩
  | 5 => ⟨k0_dev6 c, k0_dev6_lt c⟩

theorem sigDev_eq : ∀ (n : Fin 6) (c : Dev nD), sigDev n c = go (sigPeer c n) c := by decide +kernel

/-! ## The copies -/

/-- A remote copy of the kernel: `(false, i, h)` sends half `h` of a partial block to the device `i + 1` columns
    further, `(true, i, h)` sends half `h` of the reduced block to the device `i + 1` bands further. -/
abbrev Copy : Type := Bool × Fin 3 × Fin 2

/-- The peer a copy goes to. -/
abbrev peerOf (k : Copy) : Peer := (k.1, k.2.1)
/-- The peer a copy arrives from. -/
abbrev fromOf (k : Copy) : Peer := back (peerOf k)

/-- The device a copy addresses, as the kernel computes it. -/
def copyDev (c : Dev nD) (k : Copy) : Dev nD :=
  match k with
  | (false, 0, 0) => ⟨k0_dev7 c, k0_dev7_lt c⟩
  | (false, 1, 0) => ⟨k0_dev8 c, k0_dev8_lt c⟩
  | (false, 2, 0) => ⟨k0_dev9 c, k0_dev9_lt c⟩
  | (false, 0, 1) => ⟨k0_dev10 c, k0_dev10_lt c⟩
  | (false, 1, 1) => ⟨k0_dev11 c, k0_dev11_lt c⟩
  | (false, 2, 1) => ⟨k0_dev12 c, k0_dev12_lt c⟩
  | (true, 0, 0) => ⟨k0_dev13 c, k0_dev13_lt c⟩
  | (true, 1, 0) => ⟨k0_dev14 c, k0_dev14_lt c⟩
  | (true, 2, 0) => ⟨k0_dev15 c, k0_dev15_lt c⟩
  | (true, 0, 1) => ⟨k0_dev16 c, k0_dev16_lt c⟩
  | (true, 1, 1) => ⟨k0_dev17 c, k0_dev17_lt c⟩
  | (true, 2, 1) => ⟨k0_dev18 c, k0_dev18_lt c⟩

theorem copyDev_eq : ∀ (c : Dev nD) (k : Copy), copyDev c k = go (peerOf k) c := by decide +kernel

/-- The copies of one kind in the order they are started and waited for: half 0 first. -/
def order : List (Fin 3 × Fin 2) := [(0, 0), (1, 0), (2, 0), (0, 1), (1, 1), (2, 1)]
theorem order_nodup : order.Nodup := by decide
theorem order_univ : (Finset.univ : Finset (Fin 3 × Fin 2)) = order.toFinset := by decide

end Cert.Exchange

end
-- ==== Proof.Program.lean ====
/-
# The kernel's body as six loops

The printed body is a straight line of 12 copies, 24 waits, 6 signals and the two half-block reductions between them.
This file writes it once per kind of step — over the copy, the half, the signal — and proves that the printed body is
that program.
-/
module

public import proofs.«01_k».proof.Proof.Mesh
public import proofs.«01_k».proof.Proof.Gen.KernelIdeal.Skeleton

@[expose] public section

noncomputable section

namespace Cert.Exchange

open Cert.KernelIdeal Cert.KernelIdeal.Gen
open Idealize.ShloMosaic Idealize.SL.Sem

variable {F : FTy → Type} [FloatOps F]

/-! ## The buffers and semaphores a step names -/

/-- The operand, the result, the landing slots and the reduced block. -/
abbrev xM : Memref sig .tc .vmem S1x2048x2048 .f32 := Memref.whole cc0_stg0_0
abbrev oM : Memref sig .tc .vmem S2048x512 .f32 := Memref.whole cc0_stg1_0
abbrev pM : Memref sig .tc .vmem S6x512x256 .f32 := Memref.whole cc0_scratch0
abbrev rM : Memref sig .tc .vmem S512x512 .f32 := Memref.whole cc0_scratch1

theorem slot_inb (i : Fin 3) (h : Fin 2) : ∀ a, (![2 * i.val + h.val, 0, 0] : Fin 3 → Nat) a + S1x512x256.size a ≤ S6x512x256.size a := by
  revert i h; decide
theorem half_inb (h : Fin 2) : ∀ a, (![0, 256 * h.val] : Fin 2 → Nat) a + S512x256.size a ≤ S512x512.size a := by
  revert h; decide
theorem sem_inb (i : Fin 3) (h : Fin 2) : ∀ a, (![2 * i.val + h.val] : Fin 1 → Nat) a + S1.size a ≤ S6.size a := by
  revert i h; decide

/-- The rectangle of the landing buffer a half partial arrives in. -/
abbrev slotRect (i : Fin 3) (h : Fin 2) : Rect S6x512x256 :=
  Rect.unit (s := S6x512x256) ![2 * i.val + h.val, 0, 0] S1x512x256.size (slot_inb i h)
/-- The rectangle of the operand a half partial is sent from; the device's own half partial. -/
abbrev partRect (c : Dev nD) (i : Fin 3) (h : Fin 2) : Rect S1x2048x2048 :=
  Rect.unit (s := S1x2048x2048) (k0_off1 c (BitVec.ofNat 32 (1 + i.val)) (BitVec.ofNat 32 (256 * h.val))) S1x512x256.size (k0_off1_inb c i h)
abbrev ownRect (c : Dev nD) (h : Fin 2) : Rect S1x2048x2048 :=
  Rect.unit (s := S1x2048x2048) (k0_off2 c (BitVec.ofNat 32 (256 * h.val))) S1x512x256.size (k0_off2_inb c h)
/-- The rectangle of half `h` of the reduced block. -/
abbrev halfRect (h : Fin 2) : Rect S512x512 :=
  Rect.unit (s := S512x512) ![0, 256 * h.val] S512x256.size (half_inb h)

/-- Where half `h` of device `c`'s block lies in the result, as the store computes it and as the copies compute it. -/
def storeOff (c : Dev nD) : Fin 2 → Fin 2 → Nat
  | 0 => k0_off3 c
  | 1 => k0_off5 c
def landOff (c : Dev nD) : Fin 2 → Fin 2 → Nat
  | 0 => k0_off4 c
  | 1 => k0_off6 c
theorem storeOff_inb (c : Dev nD) (h : Fin 2) : ∀ a, storeOff c h a + S512x256.size a ≤ S2048x512.size a := by
  revert c h; decide +kernel
theorem landOff_inb (c : Dev nD) (h : Fin 2) : ∀ a, landOff c h a + S512x256.size a ≤ S2048x512.size a := by
  revert c h; decide +kernel

abbrev storeRect (c : Dev nD) (h : Fin 2) : Rect S2048x512 :=
  Rect.unit (s := S2048x512) (storeOff c h) S512x256.size (storeOff_inb c h)
abbrev landRect (c : Dev nD) (h : Fin 2) : Rect S2048x512 :=
  Rect.unit (s := S2048x512) (landOff c h) S512x256.size (landOff_inb c h)

/-- The landing slot `(i, h)`, the half partial sent to it, half `h` of the reduced block, and half `h` of device
    `c`'s band of the result: each a `512 × 256` block. -/
abbrev slotM (i : Fin 3) (h : Fin 2) : Memref sig .tc .vmem S512x256 .f32 :=
  (pM.slice (slotRect i h) (fun _ => rfl)).squeeze S512x256 squeezes_S1x512x256_S512x256
abbrev partM (c : Dev nD) (i : Fin 3) (h : Fin 2) : Memref sig .tc .vmem S512x256 .f32 :=
  (xM.slice (partRect c i h) (fun _ => rfl)).squeeze S512x256 squeezes_S1x512x256_S512x256
abbrev halfM (h : Fin 2) : Memref sig .tc .vmem S512x256 .f32 := rM.slice (halfRect h) (fun _ => rfl)
abbrev landM (c : Dev nD) (h : Fin 2) : Memref sig .tc .vmem S512x256 .f32 := oM.slice (landRect c h) (fun _ => rfl)

/-- What a copy of device `c` reads and what it writes on the device it addresses. -/
def srcM (c : Dev nD) : Copy → Memref sig .tc .vmem S512x256 .f32
  | (false, i, h) => partM c i h
  | (true, _, h) => halfM h
def dstM (c : Dev nD) : Copy → Memref sig .tc .vmem S512x256 .f32
  | (false, i, h) => slotM i h
  | (true, _, h) => landM c h

theorem srcM_wordExact (c : Dev nD) : ∀ k : Copy, (srcM c k).view.WordExact
  | (false, _, _) => (View.wordExact_bits rfl).reshape _ _
  | (true, _, _) => View.wordExact_bits rfl
theorem dstM_wordExact (c : Dev nD) : ∀ k : Copy, (dstM c k).view.WordExact
  | (false, _, _) => (View.wordExact_bits rfl).reshape _ _
  | (true, _, _) => View.wordExact_bits rfl

/-- Semaphore `(i, h)` of an array of six. -/
abbrev pick (a : DmaSems sig S6) (i : Fin 3) (h : Fin 2) : DmaSems sig S_ :=
  (a.slice (Rect.unit (s := S6) ![2 * i.val + h.val] S1.size (sem_inb i h))).squeeze S_ squeezes_S1_S_

/-- The semaphore a copy signals on its own device when its source is read, and on the other when it has landed. -/
def sentS : Copy → DmaSem sig
  | (false, i, h) => (pick cc0_scratch2 i h).sem
  | (true, i, h) => (pick cc0_scratch4 i h).sem
def landS : Copy → DmaSem sig
  | (false, i, h) => (pick cc0_scratch3 i h).sem
  | (true, i, h) => (pick cc0_scratch5 i h).sem

/-- The runtime's barrier semaphore. -/
abbrev barS : Sem sig := (SemArray.scalar (sig.barrier 0 rfl) : Sems sig S_).sem

/-! ## The steps -/

variable (F) in
/-- A piece of the body of one device's kernel. -/
abbrev Steps : Type 1 := Prog (TpuEff nD τ sig (Elt F) Λ₀ .tc) PUnit

/-- Steps one after another, ending the program. -/
def seq : List (Steps F) → Steps F → Steps F
  | [], k => k
  | p :: ps, k => p >>= fun _ => seq ps k

/-- One unit to the barrier semaphore of the `n`-th addressee. -/
def signal (c : Dev nD) (n : Fin 6) : Steps F := semSignalWord (sigDev n c) barS 1#32
/-- The wait for the six units of the device's own peers. -/
def gather : Steps F := semWaitWord barS 6#32

/-- Start a copy. -/
def send (c : Dev nD) (k : Copy) : Steps F :=
  Prog.lift (.enqueueDma (srcM c k) (.remote (Dev.tc (copyDev c k)) (dstM c k) (.dma (sentS k))) (.dma (landS k))
    (srcM_wordExact c k) (dstM_wordExact c k) ⟨⟨rfl, Or.inl rfl⟩, trivial⟩)

/-- Wait until the copy has arrived here. -/
def waitLand : Copy → Steps F
  | (false, i, h) => Prog.lift (.waitDma2 (landS (false, i, h)) (slotM i h) (slotM i h)
      ((View.wordExact_bits rfl).reshape _ _) ((View.wordExact_bits rfl).reshape _ _))
  | (true, i, h) => Prog.lift (.waitDma2 (landS (true, i, h)) (halfM h) (halfM h) (View.wordExact_bits rfl) (View.wordExact_bits rfl))

/-- Wait until the copy's source has been read. -/
def waitSent (c : Dev nD) (k : Copy) : Steps F :=
  Prog.lift (.waitDma2 (sentS k) (dstM c k) (srcM c k) (dstM_wordExact c k) (srcM_wordExact c k))

/-- Add up half `h`: the own partial and the three that arrived, left to right, stored to the reduced block and to
    the own band of the result. -/
def reduce (c : Dev nD) (h : Fin 2) : Steps F := do
  let own ← Prog.lift (.load xM (ownRect c h).toLoadRect (View.loadsAt_vmem h_S1x512x256))
  let a ← Prog.lift (.load pM (slotRect 0 h).toLoadRect (View.loadsAt_vmem h_S1x512x256))
  let b ← Prog.lift (.load pM (slotRect 1 h).toLoadRect (View.loadsAt_vmem h_S1x512x256))
  let d ← Prog.lift (.load pM (slotRect 2 h).toLoadRect (View.loadsAt_vmem h_S1x512x256))
  let _ ← Prog.lift (.load rM (halfRect h).toLoadRect (View.loadsAt_vmem h_S512x256))
  Prog.lift (.store rM (halfRect h) (k0_pay2 own a b d) Finset.univ (View.stores_vmem_bits_univ h_S512x256 rfl) (.inl rfl))
  let _ ← Prog.lift (.load oM (storeRect c h).toLoadRect (View.loadsAt_vmem h_S512x256))
  Prog.lift (.store oM (storeRect c h) (k0_pay1 own a b d) Finset.univ (View.stores_vmem_bits_univ h_S512x256 rfl) (.inl rfl))

/-- The copies of one half, and of both. -/
def ofHalf (b : Bool) (h : Fin 2) : List Copy := [(b, 0, h), (b, 1, h), (b, 2, h)]
def ofKind (b : Bool) : List Copy := ofHalf b 0 ++ ofHalf b 1

/-- Half `h`: wait for its three partials, add up, send the sum to the other bands. -/
def half (c : Dev nD) (h : Fin 2) (k : Steps F) : Steps F :=
  seq ((ofHalf false h).map waitLand) (reduce c h >>= fun _ => seq ((ofHalf true h).map (send c)) k)

/-- The body on device `c`. -/
def program (c : Dev nD) : Steps F :=
  seq ((List.finRange 6).map (signal c)) (gather >>= fun _ =>
    seq ((ofKind false).map (send c)) (half c 0 (half c 1
      (seq ((ofKind true).map waitLand) (seq ((ofKind false ++ ofKind true).map (waitSent c)) (pure ⟨⟩))))))

set_option maxRecDepth 65536 in
/-- The printed body is the program. -/
theorem body_eq : cc0_body (F := F) xM (Memref.isWhole_whole _) oM (Memref.isWhole_whole _) pM (Memref.isWhole_whole _)
      rM (Memref.isWhole_whole _) cc0_scratch2 cc0_scratch3 cc0_scratch4 cc0_scratch5
    = (Prog.lift .deviceId >>= fun c => program c) := rfl

end Cert.Exchange

end
-- ==== Proof.Regions.lean ====
/-
# The parts of the buffers

The landing buffer is six slots, the reduced block two halves, a column's result four bands of two halves. This file
states which elements each part has, that the parts of a buffer are disjoint and cover it, and what one element of a
part is in its buffer.
-/
module

public import proofs.«01_k».proof.Proof.Program
public import Idealize.ShloMosaic.Lib.ValueLayout

@[expose] public section

noncomputable section

namespace Cert.Exchange

open Cert.KernelIdeal Cert.KernelIdeal.Gen
open Idealize.ShloMosaic Idealize.ShloMosaic.ValueIdx

/-! ## Closed forms of the offsets -/

theorem landOff_eq : ∀ (c : Dev nD) (h : Fin 2), landOff c h = ![512 * (band c).val, 256 * h.val] := by decide +kernel
theorem storeOff_eq : ∀ (c : Dev nD) (h : Fin 2), storeOff c h = landOff c h := by decide +kernel
theorem partOff_eq : ∀ (c : Dev nD) (i : Fin 3) (h : Fin 2), k0_off1 c (BitVec.ofNat 32 (1 + i.val)) (BitVec.ofNat 32 (256 * h.val))
    = ![0, 512 * (band c).val, 512 * (col (go (false, i) c)).val + 256 * h.val] := by decide +kernel
theorem ownOff_eq : ∀ (c : Dev nD) (h : Fin 2), k0_off2 c (BitVec.ofNat 32 (256 * h.val))
    = ![0, 512 * (band c).val, 512 * (col c).val + 256 * h.val] := by decide +kernel

/-! ## The elements of each part -/

theorem slot_set (i : Fin 3) (h : Fin 2) : (slotM i h).view.set = (slotRect i h).set :=
  (View.set_reshape _ _).trans (View.set_slice_whole _ _)
theorem half_set (h : Fin 2) : (halfM h).view.set = (halfRect h).set := View.set_slice_whole _ _
theorem land_set (c : Dev nD) (h : Fin 2) : (landM c h).view.set = (landRect c h).set := View.set_slice_whole _ _

theorem mem_slot (i : Fin 3) (h : Fin 2) (x : S6x512x256.Idx) : x ∈ (slotRect i h).set ↔ (x 0).val = 2 * i.val + h.val := by
  rw [Rect.mem_set_unit]
  refine ⟨fun H => ?_, fun H a => ?_⟩
  · have := H 0; simp at this; omega
  · fin_cases a
    · simp; omega
    · have := (x 1).isLt; simp at this ⊢; omega
    · have := (x 2).isLt; simp at this ⊢; omega

theorem mem_half (h : Fin 2) (x : S512x512.Idx) : x ∈ (halfRect h).set ↔ (x 1).val / 256 = h.val := by
  rw [Rect.mem_set_unit]
  refine ⟨fun H => ?_, fun H a => ?_⟩
  · have := H 1; simp at this; omega
  · fin_cases a
    · have := (x 0).isLt; simp at this ⊢; omega
    · simp; omega

theorem mem_land (c : Dev nD) (h : Fin 2) (x : S2048x512.Idx) :
    x ∈ (landRect c h).set ↔ (x 0).val / 512 = (band c).val ∧ (x 1).val / 256 = h.val := by
  rw [show landRect c h = Rect.unit (s := S2048x512) ![512 * (band c).val, 256 * h.val] S512x256.size (landOff_eq c h ▸ landOff_inb c h)
    from Rect.unit_congr (landOff_eq c h) _ _, Rect.mem_set_unit]
  refine ⟨fun H => ?_, fun H a => ?_⟩
  · have h0 := H 0; have h1 := H 1; simp at h0 h1; omega
  · fin_cases a
    · simp; omega
    · simp; omega

/-! ## The parts of a buffer are disjoint and cover it -/

theorem slot_disjoint (t t' : Fin 3 × Fin 2) (hn : t ≠ t') : Disjoint (slotM t.1 t.2).view.set (slotM t'.1 t'.2).view.set := by
  rw [slot_set, slot_set, Finset.disjoint_left]
  intro x hx hx'
  rw [mem_slot] at hx hx'
  exact hn (Prod.ext (Fin.ext (by omega)) (Fin.ext (by omega)))
theorem slot_cover (x : S6x512x256.Idx) : ∃ t : Fin 3 × Fin 2, x ∈ (slotM t.1 t.2).view.set := by
  have hx : (x 0).val < 6 := (x 0).isLt
  refine ⟨(⟨(x 0).val / 2, by omega⟩, ⟨(x 0).val % 2, by omega⟩), ?_⟩
  rw [slot_set, mem_slot]; simp only; omega

theorem half_disjoint (t t' : Fin 2) (hn : t ≠ t') : Disjoint (halfM t).view.set (halfM t').view.set := by
  rw [half_set, half_set, Finset.disjoint_left]
  intro x hx hx'
  rw [mem_half] at hx hx'
  exact hn (Fin.ext (by omega))
theorem half_cover (x : S512x512.Idx) : ∃ t : Fin 2, x ∈ (halfM t).view.set := by
  have hx : (x 1).val < 512 := (x 1).isLt
  exact ⟨⟨(x 1).val / 256, by omega⟩, by rw [half_set, mem_half]⟩

/-- The bands of a column: the device's own and its three peers'. -/
def bandDev (c : Dev nD) : Option (Fin 3) → Dev nD
  | none => c
  | some i => go (true, i) c
theorem bandDev_inj : ∀ (c : Dev nD) (o o' : Option (Fin 3)), band (bandDev c o) = band (bandDev c o') → o = o' := by decide +kernel
theorem bandDev_cover : ∀ (c : Dev nD) (q : Fin 4), ∃ o : Option (Fin 3), band (bandDev c o) = q := by decide +kernel
theorem col_bandDev : ∀ (c : Dev nD) (o : Option (Fin 3)), col (bandDev c o) = col c := by decide +kernel

theorem land_disjoint (c : Dev nD) (t t' : Option (Fin 3) × Fin 2) (hn : t ≠ t') :
    Disjoint (landM (bandDev c t.1) t.2).view.set (landM (bandDev c t'.1) t'.2).view.set := by
  rw [land_set, land_set, Finset.disjoint_left]
  intro x hx hx'
  rw [mem_land] at hx hx'
  exact hn (Prod.ext (bandDev_inj c _ _ (Fin.ext (by omega))) (Fin.ext (by omega)))
theorem land_cover (c : Dev nD) (x : S2048x512.Idx) : ∃ t : Option (Fin 3) × Fin 2, x ∈ (landM (bandDev c t.1) t.2).view.set := by
  have h0 : (x 0).val < 2048 := (x 0).isLt
  have h1 : (x 1).val < 512 := (x 1).isLt
  obtain ⟨o, ho⟩ := bandDev_cover c ⟨(x 0).val / 512, by omega⟩
  refine ⟨(o, ⟨(x 1).val / 256, by omega⟩), ?_⟩
  rw [land_set, mem_land, ho]
  exact ⟨rfl, rfl⟩

/-! ## Reading a part -/

section Read
variable {α : Type} {Val : EltTy → Type}

/-- Element `(a, b)` of half `h` of device `c`'s band of the result. -/
theorem land_read (c : Dev nD) (h : Fin 2) (f : S2048x512.Idx → Val .f32) (a : Fin 512) (b : Fin 256) :
    (landM c h).view.read Val f (ix2 a b)
      = f (ix2 ⟨512 * (band c).val + a.val, by omega⟩ ⟨256 * h.val + b.val, by omega⟩) := by
  rw [View.read_apply]
  show f _ = f _
  congr 1
  funext d
  apply Fin.ext
  show landOff c h d + 1 * (ix2 a b d).val = _
  rw [landOff_eq]
  fin_cases d <;> simp

/-- Element `(a, b)` of the half partial device `c` sends `i + 1` columns further. -/
theorem part_read (c : Dev nD) (i : Fin 3) (h : Fin 2) (f : S1x2048x2048.Idx → Val .f32) (a : Fin 512) (b : Fin 256) :
    (partM c i h).view.read Val f (ix2 a b)
      = f (ix3 0 ⟨512 * (band c).val + a.val, by omega⟩ ⟨512 * (col (go (false, i) c)).val + 256 * h.val + b.val, by omega⟩) := by
  rw [View.read_apply]
  show f ((partRect c i h).emb (Shape.reshapeEquiv _ (ix2 a b))) = f _
  rw [reshapeEquiv_ix2_1ab]
  congr 1
  funext d
  apply Fin.ext
  show k0_off1 c (BitVec.ofNat 32 (1 + i.val)) (BitVec.ofNat 32 (256 * h.val)) d + 1 * (ix3 _ a b d).val = _
  rw [partOff_eq]
  fin_cases d <;> simp

/-- Element `(a, b)` of the device's own half partial, as it is loaded. -/
theorem own_read (c : Dev nD) (h : Fin 2) (f : S1x2048x2048.Idx → Val .f32) (a : Fin 512) (b : Fin 256) :
    xM.view.readAt Val (ownRect c h).toLoadRect f (ix3 0 a b)
      = f (ix3 0 ⟨512 * (band c).val + a.val, by omega⟩ ⟨512 * (col c).val + 256 * h.val + b.val, by omega⟩) := by
  show f _ = f _
  congr 1
  funext d
  apply Fin.ext
  show k0_off2 c (BitVec.ofNat 32 (256 * h.val)) d + 1 * (ix3 _ a b d).val = _
  rw [ownOff_eq]
  fin_cases d <;> simp

end Read

end Cert.Exchange

end
-- ==== Proof.Contents.lean ====
/-
# What the buffers hold

Given the blocks of the operand the devices start from, this file says what each copy carries, what each device's
reduced block is, and what its result is. The sums are over any float values and in the order the kernel adds.
-/
module

public import proofs.«01_k».proof.Proof.Regions

@[expose] public section

noncomputable section

namespace Cert.Exchange

open Cert.KernelIdeal Cert.KernelIdeal.Gen
open Idealize.ShloMosaic Idealize.ShloMosaic.ValueIdx

variable {F : FTy → Type} [FloatOps F]

variable (F) in
/-- A block of the operand, and half a block of a partial or of the sum. -/
abbrev Operand : Type := S1x2048x2048.Idx → Elt F .f32
variable (F) in
abbrev HalfBlock : Type := S512x256.Idx → Elt F .f32

/-- Four half blocks added from left to right. -/
def addUp (own a b d : HalfBlock F) : HalfBlock F :=
  addf (F := F) (s := S512x256) (φ := .f32) (addf (F := F) (s := S512x256) (φ := .f32) (addf (F := F) (s := S512x256) (φ := .f32) own a) b) d

variable (x : Dev nD → Operand F)

/-- The half partial device `c` adds first: its own. -/
def ownHalf (c : Dev nD) (h : Fin 2) : HalfBlock F :=
  shapeCast (α := Elt F .f32) S512x256 (xM.view.readAt (Elt F) (ownRect c h).toLoadRect (x c)) shapeCasts_S1x512x256_S512x256

/-- The half partial that device `c` sends `i + 1` columns further. -/
def partHalf (c : Dev nD) (i : Fin 3) (h : Fin 2) : HalfBlock F := (partM c i h).view.read (Elt F) (x c)

/-- Half `h` of device `c`'s reduced block: its own half partial and the three that arrive, by the slot they arrive in. -/
def total (c : Dev nD) (h : Fin 2) : HalfBlock F :=
  addUp (ownHalf x c h) (partHalf x (go (back (false, 0)) c) 0 h) (partHalf x (go (back (false, 1)) c) 1 h)
    (partHalf x (go (back (false, 2)) c) 2 h)

/-- What a copy of device `c` carries. -/
def carried (c : Dev nD) : Copy → HalfBlock F
  | (false, i, h) => partHalf x c i h
  | (true, _, h) => total x c h

/-- The reduced block, and the result: the reduced blocks of the column's four bands. -/
def reduced (c : Dev nD) : S512x512.Idx → Elt F .f32 := fun j =>
  total x c ⟨(j 1).val / 256, by have := (j 1).isLt; simp at this; omega⟩
    (ix2 (j 0) ⟨(j 1).val % 256, Nat.mod_lt _ (by decide)⟩)
def result (c : Dev nD) : S2048x512.Idx → Elt F .f32 := fun j =>
  total x (at_ ⟨(j 0).val / 512, by have := (j 0).isLt; simp at this; omega⟩ (col c)) ⟨(j 1).val / 256, by have := (j 1).isLt; simp at this; omega⟩
    (ix2 ⟨(j 0).val % 512, Nat.mod_lt _ (by decide)⟩ ⟨(j 1).val % 256, Nat.mod_lt _ (by decide)⟩)

/-- Half `h` of the reduced block is the sum of the halves. -/
theorem read_reduced (c : Dev nD) (h : Fin 2) : (halfM h).view.read (Elt F) (reduced x c) = total x c h := by
  funext j
  rw [View.read_apply]
  show reduced x c ((halfRect h).emb j) = _
  have h1 : (((halfRect h).emb j) 1).val = 256 * h.val + (j 1).val := by
    show 256 * h.val + 1 * (j 1).val = _; omega
  have h0 : (((halfRect h).emb j) 0).val = (j 0).val := by
    show 0 + 1 * (j 0).val = _; omega
  have hj : (j 1).val < 256 := (j 1).isLt
  unfold reduced
  congr 1
  · exact Fin.ext (by show _ / 256 = _; rw [h1]; omega)
  · funext a
    apply Fin.ext
    fin_cases a
    · exact h0
    · show _ % 256 = _
      rw [h1]; simp; omega

/-- Half `h` of band `band e` of a column's result is that device's sum. -/
theorem read_result (c e : Dev nD) (he : col e = col c) (h : Fin 2) : (landM e h).view.read (Elt F) (result x c) = total x e h := by
  funext j
  obtain ⟨a, b, rfl⟩ : ∃ (a : Fin 512) (b : Fin 256), j = ix2 a b := ⟨j 0, j 1, by funext d; fin_cases d <;> rfl⟩
  rw [land_read]
  unfold result
  congr 1
  · rw [← he]
    conv_rhs => rw [← at_band_col e]
    congr 1
    exact Fin.ext (by simp; omega)
  · exact Fin.ext (by simp; omega)
  · funext d
    apply Fin.ext
    fin_cases d <;> simp <;> omega

/-- The sum as it is stored to the result, from what the loads read. -/
theorem pay1_eq (own a b d : S1x512x256.Idx → Elt F .f32) : k0_pay1 (F := F) own a b d
    = addUp (shapeCast (α := Elt F .f32) S512x256 own shapeCasts_S1x512x256_S512x256)
        (shapeCast (α := Elt F .f32) S512x256 a shapeCasts_S1x512x256_S512x256)
        (shapeCast (α := Elt F .f32) S512x256 b shapeCasts_S1x512x256_S512x256)
        (shapeCast (α := Elt F .f32) S512x256 d shapeCasts_S1x512x256_S512x256) := rfl
/-- The sum as it is stored to the reduced block is the same one. -/
theorem pay2_eq (own a b d : S1x512x256.Idx → Elt F .f32) : k0_pay2 (F := F) own a b d = k0_pay1 own a b d := by
  unfold k0_pay2
  exact shapeCast_self _ _

/-- Loading slot `(i, h)` and dropping the leading axis is reading the slot. -/
theorem slot_load (i : Fin 3) (h : Fin 2) (f : S6x512x256.Idx → Elt F .f32) :
    shapeCast (α := Elt F .f32) S512x256 (pM.view.readAt (Elt F) (slotRect i h).toLoadRect f) shapeCasts_S1x512x256_S512x256
      = (slotM i h).view.read (Elt F) f := rfl

end Cert.Exchange

end
-- ==== Proof.Schedule.lean ====
/-
# The semaphores as a schedule

Every semaphore cell of the kernel is used for one round. A device's barrier cell takes one unit from each of its six
peers; the cell a copy signals when its source is read takes the copy's credit from the device itself, the cell it
signals on arrival takes it from the sending device. This file gives the cells, the schedule of those rounds with what
each unit hands over, what each device owes at the start, and the levels that order the waits.
-/
module

public import proofs.«01_k».proof.Proof.Contents
public import Idealize.ShloMosaic.Lib.Rounds
public import Idealize.ShloMosaic.Lib.Memref
public import Idealize.ShloMosaic.Lib.ShareLeaves
public import Idealize.ShloMosaic.Lib.Pipeline.Launch
public import Idealize.ShloMosaic.Lib.Pipeline.Kit
public import Idealize.ShloMosaic.Lib.Tactic
public import Mathlib.Data.Fintype.Option

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline's rounds and the kernel's own, whose units are named by peers -/

abbrev RU : Type := URounds (GSem nD τ sig) Peer
abbrev UU : Type := UR sig nD τ × RU

local notation "𝕄" => MT nD τ sig Unit (Elt F) ℕ UU ℕ

variable (F) in
abbrev EP : Emb (UR sig nD τ) (MT nD τ sig Unit (Elt F) ℕ UU ℕ) := embL
variable (F) in
abbrev ER : Emb RU (MT nD τ sig Unit (Elt F) ℕ UU ℕ) := embR

/-! ## The cells -/

/-- A cell of one device: the barrier, or a copy's: `(false, k)` counts its source read, `(true, k)` its arrival. -/
abbrev Cell : Type := Option (Bool × Copy)

abbrev copySem : Bool × Copy → SemLoc sig
  | (false, k) => .dma (sentS k)
  | (true, k) => .dma (landS k)
abbrev cellSem : Cell → SemLoc sig
  | none => .reg barS
  | some p => copySem p

theorem copySem_inj : ∀ p p' : Bool × Copy, copySem p = copySem p' → p = p' := by decide +kernel
theorem copySem_ne (p : Bool × Copy) : copySem p ≠ .reg barS := by
  rcases p with ⟨_ | _, k⟩ <;> exact fun h => nomatch h
theorem cellSem_inj : ∀ i i' : Cell, cellSem i = cellSem i' → i = i'
  | none, none, _ => rfl
  | none, some p, h => absurd h.symm (copySem_ne p)
  | some p, none, h => absurd h (copySem_ne p)
  | some p, some p', h => congrArg some (copySem_inj p p' h)

/-- The cell of a semaphore, if it has one. -/
def cellOf (s : SemLoc sig) : Option Cell := Finset.univ.toList.find? fun i => cellSem i = s

theorem cellOf_sem (i : Cell) : cellOf (cellSem i) = some i := by
  unfold cellOf
  cases h : Finset.univ.toList.find? fun i' => cellSem i' = cellSem i with
  | none => exact absurd (List.find?_eq_none.mp h i (Finset.mem_toList.mpr (Finset.mem_univ _))) (by simp)
  | some i' => exact congrArg some (cellSem_inj _ _ (by simpa using List.find?_some h))

abbrev at_cell (c : Dev nD) (i : Cell) : GSem nD τ sig := ((c : Thread nD τ), cellSem i)
abbrev barC (c : Dev nD) : GSem nD τ sig := at_cell c none
abbrev sentC (c : Dev nD) (k : Copy) : GSem nD τ sig := at_cell c (some (false, k))
abbrev landC (c : Dev nD) (k : Copy) : GSem nD τ sig := at_cell c (some (true, k))

theorem at_cell_inj (c c' : Dev nD) (i i' : Cell) (h : at_cell c i = at_cell c' i') : c = c' ∧ i = i' :=
  ⟨congrArg (fun g : GSem nD τ sig => g.1.1) h, cellSem_inj _ _ (congrArg Prod.snd h)⟩

/-- The credit of one half block. -/
def N : ℕ := (halfM 0).view.dmaCredit
theorem N_pos : 0 < N := View.dmaCredit_pos _ (by decide)
theorem dst_credit (c : Dev nD) : ∀ k : Copy, (dstM c k).view.dmaCredit = N
  | (false, _, _) => rfl
  | (true, _, _) => rfl
theorem src_credit (c : Dev nD) : ∀ k : Copy, (srcM c k).view.dmaCredit = N
  | (false, _, _) => rfl
  | (true, _, _) => rfl

/-! ## What a unit hands over -/

variable (x : Dev nD → Operand F)

/-- The share of its source a copy reads under: six of eight parts of the operand for the six half partials, three of
    four parts of a half of the reduced block for the three copies of it. -/
def shareOf : Copy → PosShare TreeShare
  | (false, i, h) => ShareLeaves.leaf 3 fullShare (Fin.ofNat (2 ^ 3) (2 * i.val + h.val))
  | (true, i, _) => ShareLeaves.leaf 2 fullShare (Fin.ofNat (2 ^ 2) i.val)

variable (F) in
/-- A block of device `c`, whole, at some contents. -/
def blank (c : Dev nD) (m : Memref sig .tc .vmem S512x256 .f32) : sProp 𝕄 :=
  iprop(∃ f : Buf (Elt F) (m.view.loc (c : Thread nD τ)), m.view.loc (c : Thread nD τ) ↦[m.view.set]{fullShare} f)

variable (F) in
/-- The block device `c`'s copy `k` writes on device `e`. -/
def room (c e : Dev nD) (k : Copy) : sProp 𝕄 := blank F e (dstM c k)

variable (F) in
/-- What device `c` gets from its peer `j`: the room for its two copies to that peer. -/
def lent (c : Dev nD) (j : Peer) : sProp 𝕄 := bigSep Finset.univ fun h : Fin 2 => room F c (go j c) (j.1, j.2, h)

/-- What a unit on a cell of device `c` hands over: on the barrier the room for the copies to that peer, on the others the
    half block the copy read or wrote. -/
def pay (c : Dev nD) : Cell → Peer → sProp 𝕄
  | none, j => lent F c j
  | some (false, k), _ => owns (c : Thread nD τ) (srcM c k) (shareOf k) (carried x c k)
  | some (true, k), _ => owns (c : Thread nD τ) (dstM (go (fromOf k) c) k) fullShare (carried x (go (fromOf k) c) k)

/-- Who pays a cell: on the barrier each peer, on the others one unit whose name does not matter. -/
def payers : Cell → Finset Peer
  | none => Finset.univ
  | some _ => {(false, 0)}
/-- How much one payment is. -/
def unitOf : Cell → ℕ
  | none => 1
  | some _ => N
/-- How much a cell receives. -/
def sumOf : Cell → ℕ
  | none => 6
  | some _ => N

theorem unitOf_pos : ∀ i : Cell, 0 < unitOf i
  | none => Nat.one_pos
  | some _ => N_pos

/-- The schedule: one round per cell. -/
def rd : Rounds.Schedule (GSem nD τ sig) Peer 𝕄 where
  duties g r := if r = 0 ∧ g.1.2 = .tc then (cellOf g.2).elim ∅ payers else ∅
  amount g _ _ := (cellOf g.2).elim 1 unitOf
  payload g _ j := (cellOf g.2).elim iprop(emp) fun i => pay x g.1.1 i j
  amount_pos g _ _ _ := by cases cellOf g.2 <;> [exact Nat.one_pos; exact unitOf_pos _]

instance room_storable (c e : Dev nD) (k : Copy) : BI.Storable (upEmb : UEmb _ 𝕄) (room F c e k) := by unfold room blank; infer_instance
instance lent_storable (c : Dev nD) (j : Peer) : BI.Storable (upEmb : UEmb _ 𝕄) (lent F c j) := by unfold lent; infer_instance
instance pay_storable (c : Dev nD) (i : Cell) (j : Peer) : BI.Storable (upEmb : UEmb _ 𝕄) (pay x c i j) := by
  rcases i with _ | ⟨_ | _, k⟩ <;> unfold pay <;> infer_instance
instance rd_payload_storable (g : GSem nD τ sig) (r : ℕ) (j : Peer) : BI.Storable (upEmb : UEmb _ 𝕄) ((rd x).payload g r j) := by
  show BI.Storable upEmb ((cellOf g.2).elim iprop(emp) fun i => pay x g.1.1 i j)
  cases cellOf g.2 <;> simp only [Option.elim] <;> infer_instance

theorem duties_cell (c : Dev nD) (i : Cell) : (rd x).duties (at_cell c i) 0 = payers i := by
  simp only [rd, cellOf_sem, Option.elim, and_self, if_true]
theorem duties_later (g : GSem nD τ sig) (r : ℕ) (hr : 1 ≤ r) : (rd x).duties g r = ∅ := if_neg fun h => by omega
theorem amount_cell (c : Dev nD) (i : Cell) (j : Peer) : (rd x).amount (at_cell c i) 0 j = unitOf i := by
  simp only [rd, cellOf_sem, Option.elim]
theorem payload_cell (c : Dev nD) (i : Cell) (j : Peer) : (rd x).payload (at_cell c i) 0 j = pay x c i j := by
  simp only [rd, cellOf_sem, Option.elim]
theorem expect_cell (c : Dev nD) (i : Cell) : (rd x).expect (at_cell c i) 0 = sumOf i := by
  unfold Schedule.expect Schedule.amountOf
  rw [duties_cell, Finset.sum_congr rfl fun j _ => amount_cell x c i j]
  cases i with
  | none => rfl
  | some p => exact Finset.sum_singleton _ _

theorem payer_cell (c : Dev nD) (i : Cell) (j : Peer) (h : j ∈ payers i) : j ∈ (rd x).duties (at_cell c i) 0 := by rw [duties_cell]; exact h

theorem amount_bar (c : Dev nD) (j : Peer) : (rd x).amount (barC c) 0 j = 1 := amount_cell x c none j
theorem expect_bar (c : Dev nD) : (rd x).expect (barC c) 0 = 6 := expect_cell x c none
theorem payload_bar (c : Dev nD) (j : Peer) : (rd x).payload (barC c) 0 j = lent F c j := payload_cell x c none j

/-- What the wait for all of a cell's round brings. -/
theorem rest_bar (c : Dev nD) : bigSep ((rd x).duties (barC c) 0 \ ∅) (fun j => (rd x).payload (barC c) 0 j)
    = bigSep Finset.univ (lent F c) := by
  rw [Finset.sdiff_empty, duties_cell]
  exact bigSep_congr fun j _ => payload_cell x c none j
theorem rest_copy (c : Dev nD) (p : Bool × Copy) :
    bigSep ((rd x).duties (at_cell c (some p)) 0 \ ∅) (fun j => (rd x).payload (at_cell c (some p)) 0 j) = pay x c (some p) (false, 0) := by
  rw [Finset.sdiff_empty, duties_cell, payers, bigSep_singleton, payload_cell]

/-! ## Levels -/

/-- Every wait is at the one index, on a cell of a TensorCore. -/
def L (g : GSem nD τ sig) : Finset Unit := if g.1.2 = .tc then {()} else ∅
/-- The barrier before the arrivals of the partials, those before the arrivals of the sums; all else first. -/
def levelOf : Cell → ℕ
  | none => 1
  | some (true, (false, _)) => 2
  | some (true, (true, _)) => 3
  | some (false, _) => 0
def lv (g : GSem nD τ sig) (_ : Unit) : ℕ := (cellOf g.2).elim 0 levelOf

theorem L_of_ne (g : GSem nD τ sig) (h : g.1.2 ≠ .tc) : L g = ∅ := if_neg h
theorem lv_cell (c : Dev nD) (i : Cell) : lv (at_cell c i) () = levelOf i := by simp only [lv, cellOf_sem, Option.elim]

/-- All of a debt is at cells of TensorCores above level `a`. -/
def Above (a : ℕ) (O : CellTallies nD τ sig Unit) : Prop := ∀ g u, 0 < O g u → g.1.2 = .tc ∧ a < lv g u

theorem above_zero (a : ℕ) : Above a 0 := fun g u h => by simp at h
theorem above_add {a : ℕ} {O O' : CellTallies nD τ sig Unit} (h : Above a O) (h' : Above a O') : Above a (O + O') := fun g u hg => by
  rw [Pi.add_apply, Finsupp.add_apply] at hg
  by_cases h0 : 0 < O g u
  · exact h g u h0
  · exact h' g u (by omega)
theorem above_list {a : ℕ} {ι : Type} (t : ι → CellTallies nD τ sig Unit) (ht : ∀ i, Above a (t i)) : ∀ l : List ι, Above a (l.map t).sum
  | [] => above_zero a
  | i :: l => by
    rw [List.map_cons, List.sum_cons]
    exact above_add (ht i) (above_list t ht l)
theorem above_cell {a : ℕ} (c : Dev nD) (i : Cell) (k : ℕ) (h : a < levelOf i) : Above a (tallyAt (at_cell c i) () k) := fun g u hg => by
  rw [tallyAt_apply] at hg
  by_cases hc : g = at_cell c i ∧ u = ()
  · rw [hc.1]; exact ⟨rfl, by rw [lv_cell]; exact h⟩
  · rw [if_neg hc] at hg; exact absurd hg (Nat.lt_irrefl 0)

/-- A device may wait on a semaphore while all it owes is above it. -/
theorem may_wait (c : Dev nD) (s : SemLoc sig) (O : CellTallies nD τ sig Unit) (h : Above (lv ((c : Thread nD τ), s) ()) O) :
    (levAts L lv : sProp 𝕄) ⊢ MayWait (c : Thread nD τ) s () O :=
  MayOwe.of_cut (L := L) (lev := lv) (lv ((c : Thread nD τ), s) ())
    (fun p hp => by rw [Finset.mem_singleton.mp hp]; exact Finset.mem_singleton_self _)
    (fun g u hg => by unfold L; rw [if_pos (h g u hg).1]; exact Finset.mem_singleton_self _)
    (fun p hp => by rw [Finset.mem_singleton.mp hp])
    (fun g u hg => (h g u hg).2)

theorem may_wait_cell (c : Dev nD) (i : Cell) (O : CellTallies nD τ sig Unit) (h : Above (levelOf i) O) :
    (levAts L lv : sProp 𝕄) ⊢ MayWait (c : Thread nD τ) (cellSem i) () O :=
  may_wait c (cellSem i) O (by rw [lv_cell]; exact h)

/-! ## What a device owes -/

/-- A unit to the barrier of the `n`-th addressee; a half block to the cell a copy arrives on. -/
def barT (c : Dev nD) (n : Fin 6) : CellTallies nD τ sig Unit := tallyAt (barC (go (sigPeer c n) c)) () 1
def landT (c : Dev nD) (k : Copy) : CellTallies nD τ sig Unit := tallyAt (landC (go (peerOf k) c) k) () N

/-- The debt once the handshake is over, and at the start. -/
def owedSums (c : Dev nD) : CellTallies nD τ sig Unit := ((ofKind true).map (landT c)).sum
def owedCopies (c : Dev nD) : CellTallies nD τ sig Unit := owedSums c + ((ofKind false).map (landT c)).sum
def owed (c : Dev nD) : CellTallies nD τ sig Unit := owedCopies c + ((List.finRange 6).map (barT c)).sum

theorem above_landT {a : ℕ} (c : Dev nD) (k : Copy) (h : a < 2) : Above a (landT c k) :=
  above_cell _ _ _ (lt_of_lt_of_le h (by rcases k with ⟨_ | _, _⟩ <;> simp [levelOf]))
theorem above_barT (c : Dev nD) (n : Fin 6) : Above 0 (barT c n) := above_cell _ _ _ Nat.one_pos
theorem above_landT_true (c : Dev nD) (t : Fin 3 × Fin 2) : Above 2 (landT c (true, t)) := above_cell _ _ _ (by simp [levelOf])
theorem above_owedCopies {a : ℕ} (c : Dev nD) (h : a < 2) : Above a (owedCopies c) :=
  above_add (above_list _ (fun k => above_landT c k h) _) (above_list _ (fun k => above_landT c k h) _)
theorem above_owed (c : Dev nD) : Above 0 (owed c) :=
  above_add (above_owedCopies c (by decide)) (above_list _ (above_barT c) _)

end Cert.Exchange

end
-- ==== Proof.Steps.lean ====
/-
# One step at a time

What each kind of step of the body needs and what it leaves: an entry signal, the wait for the six peers, a copy
started, a wait on a copy's cell, the reduction of one half. Each is stated once, for every device, signal, copy and
half, and a list of steps of one kind is run by one lemma.
-/
module

public import proofs.«01_k».proof.Proof.Schedule
public import Idealize.ShloMosaic.Lib.Pipeline.BigSepL

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest condition under which a piece of device `c`'s body ends in `Q`. -/
abbrev run (c : Dev nD) (p : Steps F) (Q : PUnit → sProp 𝕄) : sProp 𝕄 :=
  wp frame (wpE (defs₀ (F := F)) 𝒱₀ (c : Thread nD τ) none) Set.univ p Q

/-- Device `c` owes `O`, whatever it has waited for. -/
def ow (c : Dev nD) (O : CellTallies nD τ sig Unit) : sProp 𝕄 := iprop(∃ W, owes (c : Thread nD τ) O W)

/-! ## A list of steps of one kind -/

/-- If a step takes `A i` to `B i`, and `J` from the list with `i` to the list without, then the list of steps takes all
    the `A`s to all the `B`s. -/
theorem run_seq {ι : Type} (c : Dev nD) {R : sProp 𝕄} [BI.Persistent R] {Q : PUnit → sProp 𝕄} (P : ι → Prop) (J : List ι → sProp 𝕄)
    (A B : ι → sProp 𝕄) (step : ι → Steps F)
    (hstep : ∀ (i : ι) (l : List ι) (k : PUnit → Steps F), P i →
      iprop(R ∗ J (i :: l) ∗ A i) ⊢ iprop((J l ∗ B i -∗ run c (k ⟨⟩) Q) -∗ run c (step i >>= k) Q)) :
    ∀ (l : List ι) (k : Steps F), (∀ i ∈ l, P i) →
      iprop(R ∗ J l ∗ bigSepL l A) ⊢ iprop((J [] ∗ bigSepL l B -∗ run c k Q) -∗ run c (seq (l.map step) k) Q)
  | [], k, _ => by
    iintro ⟨-, HJ, HA⟩ Hk
    iapply Hk
    isplitl [HJ]; · iexact HJ
    iexact HA
  | i :: l, k, hP => by
    rw [bigSepL_cons', bigSepL_cons']
    iintro ⟨#HR, HJ, HA, Hl⟩ Hk
    simp only [List.map_cons, seq]
    iapply (hstep i l _ (hP i List.mem_cons_self)) $$ [HJ HA]
    · isplitr; · iexact HR
      isplitl [HJ] <;> iassumption
    iintro ⟨HJ, HB⟩
    iapply (run_seq c P J A B step hstep l k fun i hi => hP i (List.mem_cons_of_mem _ hi)) $$ [HJ Hl]
    · isplitr; · iexact HR
      isplitl [HJ] <;> iassumption
    iintro ⟨HJ, Hl⟩
    iapply Hk
    isplitl [HJ]; · iexact HJ
    isplitl [HB] <;> iassumption

/-! ## What every device knows -/

variable (x : Dev nD → Operand F) (K : Dev nD × Cell → ℕ)

/-- Every cell's invariant, that every cell is at its round, and the levels. -/
def known : sProp 𝕄 :=
  iprop((bigSep Finset.univ fun p : Dev nD × Cell => cellInv (ER F) (rd x) (K p) (at_cell p.1 p.2))
    ∗ (bigSep Finset.univ fun p : Dev nD × Cell => reached (ER F) (at_cell p.1 p.2) 0) ∗ levAts L lv)

instance known_persistent : BI.Persistent (known x K) := by unfold known; infer_instance

theorem inv_at (p : Dev nD × Cell) : (bigSep Finset.univ fun p : Dev nD × Cell => (cellInv (ER F) (rd x) (K p) (at_cell p.1 p.2) : sProp 𝕄))
    ⊢ cellInv (ER F) (rd x) (K p) (at_cell p.1 p.2) := bigSep_elim (Finset.mem_univ p)
theorem reached_at (p : Dev nD × Cell) : (bigSep Finset.univ fun p : Dev nD × Cell => (reached (ER F) (at_cell p.1 p.2) 0 : sProp 𝕄))
    ⊢ reached (ER F) (at_cell p.1 p.2) 0 := bigSep_elim (Finset.mem_univ p)
theorem known_inv (c : Dev nD) (i : Cell) : known x K ⊢ cellInv (ER F) (rd x) (K (c, i)) (at_cell c i) := by
  unfold known
  iintro ⟨H, -, -⟩
  iapply (inv_at x K (c, i))
  iexact H
theorem known_reached (c : Dev nD) (i : Cell) : known x K ⊢ reached (ER F) (at_cell c i) 0 := by
  unfold known
  iintro ⟨-, H, -⟩
  iapply (reached_at (c, i))
  iexact H
theorem known_wait (c : Dev nD) (i : Cell) (O : CellTallies nD τ sig Unit) (h : Above (levelOf i) O) :
    known x K ⊢ (MayWait (c : Thread nD τ) (cellSem i) () O : sProp 𝕄) := by
  unfold known
  iintro ⟨-, -, H⟩
  iapply (may_wait_cell c i O h)
  iexact H

/-! ## The steps -/

section Step
variable (c : Dev nD) (k : PUnit → Steps F)

/-- An entry signal pays one unit of the peer's barrier and lends the peer the room for its copies. -/
theorem run_signal {Q : PUnit → sProp 𝕄} (n : Fin 6) (O : CellTallies nD τ sig Unit) :
    iprop(known x K ∗ ow c (O + barT c n)
        ∗ dutyTok (ER F) (barC (go (sigPeer c n) c)) 0 (back (sigPeer c n)) ∗ lent F (go (sigPeer c n) c) (back (sigPeer c n)))
      ⊢ iprop((ow c O -∗ run c (k ⟨⟩) Q) -∗ run c (signal c n >>= k) Q) := by
  unfold signal
  rw [sigDev_eq]
  simp only [semSignalWord, Prog.lift, Prog.bind_op, Prog.bind_ret, Prog.pure_eq_ret]
  unfold ow barT
  iintro ⟨#HR, ⟨%W, HO⟩, Ht, Hl⟩ Hk
  iapply (Rounds.wp_signal 𝒱₀ (ER F) (rd x) (c : Thread nD τ) none (dst := (go (sigPeer c n) c : Thread nD τ)) (κ := K (go (sigPeer c n) c, none))
      (d := back (sigPeer c n)) (payer_cell x _ none _ (Finset.mem_univ _))
      ((amount_bar x (go (sigPeer c n) c) _).trans (by decide)) () O rfl) $$ [HO Ht Hl]
  · isplitr; · iapply (known_inv x K _ none); iexact HR
    isplitl [HO]; · iexact HO
    isplitl [Ht]; · iexact Ht
    isplitl [Hl]; · iapply (Entails.of_eq (payload_bar x (go (sigPeer c n) c) (back (sigPeer c n))).symm); iexact Hl
    iapply (known_reached x K _ none); iexact HR
  iintro HO
  iapply Hk
  iexists W; iexact HO

/-- The wait for the six peers, what is owed being above the barrier, brings the room for all the device's copies. -/
theorem run_gather {Q : PUnit → sProp 𝕄} (O : CellTallies nD τ sig Unit) (hO : Above 1 O) :
    iprop(known x K ∗ ow c O ∗ cred (tallyAt (barC c) () 6) ∗ atPos (ER F) (barC c) 0 ∅ 0)
      ⊢ iprop((ow c O ∗ atPos (ER F) (barC c) 1 ∅ 0 ∗ bigSep Finset.univ (lent F c) -∗ run c (k ⟨⟩) Q) -∗ run c (gather >>= k) Q) := by
  have hw : known x K ⊢ (MayWait (c : Thread nD τ) (.reg barS) () O : sProp 𝕄) := known_wait x K c none O hO
  unfold gather
  simp only [semWaitWord, Prog.lift, Prog.bind_op, Prog.bind_ret, Prog.pure_eq_ret]
  unfold ow
  iintro ⟨#HR, ⟨%W, HO⟩, Hc, Hat⟩ Hk
  iapply (Rounds.wp_wait_rest_token 𝒱₀ (ER F) (rd x) (c : Thread nD τ) none (κ := K (c, none))
      (wpE_semWait_eq 𝒱₀ (c : Thread nD τ) none Set.univ) (Set.mem_univ _) () (O := O) (W := W) (R := 0) (m := 0) (T := ∅)
      (by rw [expect_bar]; decide)) $$ [Hc HO Hat]
  · isplitr; · iapply (known_inv x K c none); iexact HR
    isplitl [Hc]; · iexact Hc
    isplitl [HO]; · iexact HO
    isplitr; · iapply hw; iexact HR
    iexact Hat
  iintro ⟨HO, Hat, -, Hp⟩
  iapply Hk
  isplitl [HO]; · iexists _; iexact HO
  isplitl [Hat]; · iexact Hat
  iapply (Entails.of_eq (rest_bar x c)); iexact Hp

/-- Writing what a copy read over its destination makes the arrival's payload. -/
theorem landed (k : Copy) (fs : Buf (Elt F) ((srcM c k).view.loc (c : Thread nD τ))) (hs : (srcM c k).view.read (Elt F) fs = carried x c k)
    (fd : Buf (Elt F) ((dstM c k).view.loc (go (peerOf k) c : Thread nD τ))) :
    ((dstM c k).view.loc (go (peerOf k) c : Thread nD τ) ↦[(dstM c k).view.set]{fullShare}
        ((dstM c k).view.write (Elt F) fd ((srcM c k).view.read (Elt F) fs) Finset.univ))
      ⊢ pay x (go (peerOf k) c) (some (true, k)) (false, 0) := by
  refine (owns_intro (go (peerOf k) c : Thread nD τ) (dstM c k) fullShare _).trans (Entails.of_eq ?_)
  rw [hs, View.read_write_univ]
  simp only [pay]
  rw [show go (fromOf k) (go (peerOf k) c) = c from go_back _ _]

/-- A transfer started, between any two blocks: what it reads makes the one payload, what it writes the other. -/
theorem run_transfer {Q : PUnit → sProp 𝕄} (e : Dev nD) (src dst : Memref sig .tc .vmem S512x256 .f32) (hsrc : src.view.WordExact)
    (hdst : dst.view.WordExact) (sS sem : DmaSem sig) (hsem : DmaTarget.Typed .vmem (.dma sem) (.remote (Dev.tc e) dst (.dma sS)))
    (κ₁ κ₂ : ℕ) (d : Peer) (n : ℕ) (hn : dst.view.dmaCredit = n) (s : PosShare TreeShare)
    (hd₁ : d ∈ (rd x).duties ((c : Thread nD τ), .dma sS) 0) (hd₂ : d ∈ (rd x).duties ((e : Thread nD τ), .dma sem) 0)
    (ha₁ : (rd x).amount ((c : Thread nD τ), .dma sS) 0 d = n) (ha₂ : (rd x).amount ((e : Thread nD τ), .dma sem) 0 d = n)
    (fs : Buf (Elt F) (src.view.loc (c : Thread nD τ))) (fd : Buf (Elt F) (dst.view.loc (e : Thread nD τ)))
    (hp₁ : (src.view.loc (c : Thread nD τ) ↦[src.view.set]{s} fs) ⊢ (rd x).payload ((c : Thread nD τ), .dma sS) 0 d)
    (hp₂ : (dst.view.loc (e : Thread nD τ) ↦[dst.view.set]{fullShare} (dst.view.write (Elt F) fd (src.view.read (Elt F) fs) Finset.univ))
      ⊢ (rd x).payload ((e : Thread nD τ), .dma sem) 0 d)
    (O : CellTallies nD τ sig Unit) (W : Waits sig Unit) :
    iprop(cellInv (ER F) (rd x) κ₁ ((c : Thread nD τ), .dma sS) ∗ cellInv (ER F) (rd x) κ₂ ((e : Thread nD τ), .dma sem)
        ∗ (src.view.loc (c : Thread nD τ) ↦[src.view.set]{s} fs) ∗ (dst.view.loc (e : Thread nD τ) ↦[dst.view.set]{fullShare} fd)
        ∗ owes (c : Thread nD τ) (O + tallyAt ((e : Thread nD τ), .dma sem) () n) W
        ∗ dutyTok (ER F) ((c : Thread nD τ), .dma sS) 0 d ∗ reached (ER F) ((c : Thread nD τ), .dma sS) 0
        ∗ dutyTok (ER F) ((e : Thread nD τ), .dma sem) 0 d ∗ reached (ER F) ((e : Thread nD τ), .dma sem) 0)
      ⊢ iprop((cred (tallyAt ((c : Thread nD τ), .dma sS) () n) ∗ owes (c : Thread nD τ) O W -∗ run c (k ⟨⟩) Q)
          -∗ run c (.op (.enqueueDma src (.remote (Dev.tc e) dst (.dma sS)) (.dma sem) hsrc hdst hsem) k) Q) :=
  Rounds.wp_send_pointsTo 𝒱₀ (ER F) (rd x) (c : Thread nD τ) none hd₁ hd₂ () () n ((View.amount_dma _ _).trans hn) ha₁ ha₂ O rfl hp₁ hp₂

/-- A copy started pays the cell it arrives on; its source and the room it writes go to the copy. -/
theorem run_send_at {Q : PUnit → sProp 𝕄} (q : Copy) (e : Dev nD) (he : e = go (peerOf q) c) (O : CellTallies nD τ sig Unit) :
    iprop(known x K ∗ ow c (O + landT c q)
        ∗ owns (c : Thread nD τ) (srcM c q) (shareOf q) (carried x c q) ∗ room F c (go (peerOf q) c) q
        ∗ dutyTok (ER F) (sentC c q) 0 (false, 0) ∗ dutyTok (ER F) (landC (go (peerOf q) c) q) 0 (false, 0))
      ⊢ iprop((ow c O ∗ cred (tallyAt (sentC c q) () N) -∗ run c (k ⟨⟩) Q)
          -∗ run c (.op (.enqueueDma (srcM c q) (.remote (Dev.tc e) (dstM c q) (.dma (sentS q))) (.dma (landS q))
              (srcM_wordExact c q) (dstM_wordExact c q) ⟨⟨rfl, Or.inl rfl⟩, trivial⟩) k) Q) := by
  subst he
  unfold ow landT room blank owns
  iintro ⟨#HR, ⟨%W, HO⟩, ⟨%fs, %hs, Hs⟩, ⟨%fd, Hd⟩, Ht, Ht'⟩ Hk
  have hp₁ : ((srcM c q).view.loc (c : Thread nD τ) ↦[(srcM c q).view.set]{shareOf q} fs) ⊢ (rd x).payload (sentC c q) 0 (false, 0) := by
    rw [payload_cell, pay, ← hs]
    exact owns_intro (c : Thread nD τ) (srcM c q) (shareOf q) fs
  have hp₂ := (landed x c q fs hs fd).trans (Entails.of_eq (payload_cell x (go (peerOf q) c) (some (true, q)) (false, 0)).symm)
  iapply (run_transfer x c k (go (peerOf q) c) (srcM c q) (dstM c q) (srcM_wordExact c q) (dstM_wordExact c q) (sentS q) (landS q)
      ⟨⟨rfl, Or.inl rfl⟩, trivial⟩ (K (c, some (false, q))) (K (go (peerOf q) c, some (true, q))) (false, 0) N (dst_credit c q) (shareOf q)
      (payer_cell x c (some (false, q)) _ (Finset.mem_singleton_self _))
      (payer_cell x (go (peerOf q) c) (some (true, q)) _ (Finset.mem_singleton_self _))
      (amount_cell x c (some (false, q)) _) (amount_cell x (go (peerOf q) c) (some (true, q)) _) fs fd hp₁ hp₂ O W) $$ [HO Hs Hd Ht Ht']
  · isplitr; · iapply (known_inv x K c (some (false, q))); iexact HR
    isplitr; · iapply (known_inv x K (go (peerOf q) c) (some (true, q))); iexact HR
    isplitl [Hs]; · iexact Hs
    isplitl [Hd]; · iexact Hd
    isplitl [HO]; · iexact HO
    isplitl [Ht]; · iexact Ht
    isplitr; · iapply (known_reached x K c (some (false, q))); iexact HR
    isplitl [Ht']; · iexact Ht'
    iapply (known_reached x K (go (peerOf q) c) (some (true, q))); iexact HR
  iintro ⟨Hc, HO⟩
  iapply Hk
  isplitl [HO]; · iexists W; iexact HO
  iexact Hc

theorem run_send {Q : PUnit → sProp 𝕄} (q : Copy) (O : CellTallies nD τ sig Unit) :
    iprop(known x K ∗ ow c (O + landT c q)
        ∗ owns (c : Thread nD τ) (srcM c q) (shareOf q) (carried x c q) ∗ room F c (go (peerOf q) c) q
        ∗ dutyTok (ER F) (sentC c q) 0 (false, 0) ∗ dutyTok (ER F) (landC (go (peerOf q) c) q) 0 (false, 0))
      ⊢ iprop((ow c O ∗ cred (tallyAt (sentC c q) () N) -∗ run c (k ⟨⟩) Q) -∗ run c (send c q >>= k) Q) :=
  run_send_at x K c k q _ (copyDev_eq c q) O

/-- A wait on a copy's cell, what is owed being above it, brings the half block back. -/
theorem run_wait {Q : PUnit → sProp 𝕄} (p : Bool × Copy) (w : TpuEff nD τ sig (Elt F) Λ₀ .tc PUnit)
    (hw : ∀ P : PUnit → sProp 𝕄, wpE (defs₀ (F := F)) 𝒱₀ (c : Thread nD τ) none Set.univ w P = waitSpec (c : Thread nD τ) Set.univ (copySem p) N P)
    (O : CellTallies nD τ sig Unit) (hO : Above (levelOf (some p)) O) :
    iprop(known x K ∗ ow c O ∗ cred (tallyAt (at_cell c (some p)) () N) ∗ atPos (ER F) (at_cell c (some p)) 0 ∅ 0)
      ⊢ iprop((ow c O ∗ atPos (ER F) (at_cell c (some p)) 1 ∅ 0 ∗ pay x c (some p) (false, 0) -∗ run c (k ⟨⟩) Q) -∗ run c (.op w k) Q) := by
  have hl : known x K ⊢ (MayWait (c : Thread nD τ) (copySem p) () O : sProp 𝕄) := known_wait x K c (some p) O hO
  unfold ow
  iintro ⟨#HR, ⟨%W, HO⟩, Hc, Hat⟩ Hk
  iapply (Rounds.wp_wait_rest_token 𝒱₀ (ER F) (rd x) (c : Thread nD τ) none (κ := K (c, some p)) (sm := copySem p)
      hw (Set.mem_univ _) () (O := O) (W := W) (R := 0) (m := 0) (T := ∅)
      (by rw [Nat.zero_add]; exact (expect_cell x c (some p)).symm)) $$ [Hc HO Hat]
  · isplitr; · iapply (known_inv x K c (some p)); iexact HR
    isplitl [Hc]; · iexact Hc
    isplitl [HO]; · iexact HO
    isplitr; · iapply hl; iexact HR
    iexact Hat
  iintro ⟨HO, Hat, -, Hp⟩
  iapply Hk
  isplitl [HO]; · iexists _; iexact HO
  isplitl [Hat]; · iexact Hat
  iapply (Entails.of_eq (rest_copy x c p)); iexact Hp

theorem run_waitLand {Q : PUnit → sProp 𝕄} (q : Copy) (O : CellTallies nD τ sig Unit) (hO : Above (levelOf (some (true, q))) O) :
    iprop(known x K ∗ ow c O ∗ cred (tallyAt (landC c q) () N) ∗ atPos (ER F) (landC c q) 0 ∅ 0)
      ⊢ iprop((ow c O ∗ atPos (ER F) (landC c q) 1 ∅ 0 ∗ pay x c (some (true, q)) (false, 0) -∗ run c (k ⟨⟩) Q) -∗ run c (waitLand q >>= k) Q) := by
  rcases q with ⟨_ | _, i, h⟩
  · exact run_wait x K c k (true, false, i, h) _
      (fun P => (wpE_waitDma2_eq 𝒱₀ (c : Thread nD τ) none Set.univ P).trans (by rw [dst_credit c (false, i, h)])) O hO
  · exact run_wait x K c k (true, true, i, h) _
      (fun P => (wpE_waitDma2_eq 𝒱₀ (c : Thread nD τ) none Set.univ P).trans (by rw [src_credit c (true, i, h)])) O hO

theorem run_waitSent {Q : PUnit → sProp 𝕄} (q : Copy) :
    iprop(known x K ∗ ow c 0 ∗ cred (tallyAt (sentC c q) () N) ∗ atPos (ER F) (sentC c q) 0 ∅ 0)
      ⊢ iprop((ow c 0 ∗ atPos (ER F) (sentC c q) 1 ∅ 0 ∗ pay x c (some (false, q)) (false, 0) -∗ run c (k ⟨⟩) Q) -∗ run c (waitSent c q >>= k) Q) :=
  run_wait x K c k (false, q) _ (fun P => (wpE_waitDma2_eq 𝒱₀ (c : Thread nD τ) none Set.univ P).trans (by rw [src_credit c q])) 0 (above_zero _)

end Step

end Cert.Exchange

end
-- ==== Proof.Reduce.lean ====
/-
# The reduction of one half

With the operand, the three half partials that arrived, and room in the reduced block and in the own band of the
result, the loads and stores of one half leave the sum in both.
-/
module

public import proofs.«01_k».proof.Proof.Steps

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The block of the result a device stores to, by the offsets of the store. -/
abbrev storeM (c : Dev nD) (h : Fin 2) : Memref sig .tc .vmem S512x256 .f32 := oM.slice (storeRect c h) (fun _ => rfl)

theorem slice_congr (o o' : Fin 2 → ℕ) (ho : o = o') (hi : ∀ a, o a + S512x256.size a ≤ S2048x512.size a)
    (hi' : ∀ a, o' a + S512x256.size a ≤ S2048x512.size a) :
    (oM.slice (Rect.unit (s := S2048x512) o S512x256.size hi) (fun _ => rfl) : Memref sig .tc .vmem S512x256 .f32)
      = oM.slice (Rect.unit (s := S2048x512) o' S512x256.size hi') (fun _ => rfl) := by subst ho; rfl
theorem storeM_eq (c : Dev nD) (h : Fin 2) : storeM c h = landM c h := slice_congr _ _ (storeOff_eq c h) _ _

variable (c : Dev nD) (x : Dev nD → Operand F)

theorem slot_load_set (i : Fin 3) (h : Fin 2) : pM.view.setOn (slotRect i h).toLoadRect.set ⊆ (slotM i h).view.set := by
  intro y hy
  rw [slot_set, ← View.set_slice_whole cc0_scratch0 (slotRect i h), View.set_slice]
  exact hy

/-- Loading a slot reads the half block in it. -/
theorem run_load_slot {Q : PUnit → sProp 𝕄} (i : Fin 3) (h : Fin 2) (X : HalfBlock F) (k : (S1x512x256.Idx → Elt F .f32) → Steps F) :
    owns (c : Thread nD τ) (slotM i h) fullShare X
      ⊢ iprop((∀ v, ⌜shapeCast (α := Elt F .f32) S512x256 v shapeCasts_S1x512x256_S512x256 = X⌝
            -∗ owns (c : Thread nD τ) (slotM i h) fullShare X -∗ run c (k v) Q)
          -∗ run c (.op (.load pM (slotRect i h).toLoadRect (View.loadsAt_vmem h_S1x512x256)) k) Q) := by
  unfold owns
  iintro ⟨%f, %hf, H⟩ Hk
  iapply (wp_load 𝒱₀ (c : Thread nD τ) none Set.univ (m := pM) (r := (slotRect i h).toLoadRect) (slot_load_set i h)) $$ H
  iintro H
  iapply Hk
  · ipureintro; exact (slot_load i h f).trans hf
  iexists f
  isplitr; · ipureintro; exact hf
  iexact H

/-- A store over a whole block, after a load of it, leaves what was stored. -/
theorem run_put {Q : PUnit → sProp 𝕄} {s : Shape} (m : Memref sig .tc .vmem s .f32) (r : Rect s) (w : r.shape.Idx → Elt F .f32)
    (hl : m.view.LoadsAt r.toLoadRect) (hs : (m.access r).Stores Finset.univ) (hm : (Finset.univ : Finset r.shape.Idx) = Finset.univ ∨ ∀ a, r.stride a = 1)
    (k : PUnit → Steps F) (f : Buf (Elt F) ((m.access r).loc (c : Thread nD τ))) :
    ((m.access r).loc (c : Thread nD τ) ↦[(m.access r).set]{fullShare} f)
      ⊢ iprop((((m.access r).loc (c : Thread nD τ) ↦[(m.access r).set]{fullShare} ((m.access r).write (Elt F) f w Finset.univ)) -∗ run c (k ⟨⟩) Q)
          -∗ run c (.op (.load m r.toLoadRect hl) fun _ => .op (.store m r w Finset.univ hs hm) k) Q) := by
  iintro H Hk
  iapply (wp_load_rect 𝒱₀ (c : Thread nD τ) none Set.univ (m := m) (r := r) subset_rfl) $$ H
  iintro H
  iapply (wp_store 𝒱₀ (c : Thread nD τ) none Set.univ (m := m) (r := r) (Mk := Finset.univ) (S := (m.access r).set) (Finset.Subset.refl _)) $$ H
  iexact Hk

/-- The reduction of one half. -/
theorem run_reduce {Q : PUnit → sProp 𝕄} (h : Fin 2) (s : PosShare TreeShare) (k : PUnit → Steps F) :
    iprop((xM.view.loc (c : Thread nD τ) ↦[Finset.univ]{s} x c)
        ∗ owns (c : Thread nD τ) (slotM 0 h) fullShare (partHalf x (go (back (false, 0)) c) 0 h)
        ∗ owns (c : Thread nD τ) (slotM 1 h) fullShare (partHalf x (go (back (false, 1)) c) 1 h)
        ∗ owns (c : Thread nD τ) (slotM 2 h) fullShare (partHalf x (go (back (false, 2)) c) 2 h)
        ∗ blank F c (halfM h) ∗ blank F c (landM c h))
      ⊢ iprop(((xM.view.loc (c : Thread nD τ) ↦[Finset.univ]{s} x c)
        ∗ owns (c : Thread nD τ) (slotM 0 h) fullShare (partHalf x (go (back (false, 0)) c) 0 h)
        ∗ owns (c : Thread nD τ) (slotM 1 h) fullShare (partHalf x (go (back (false, 1)) c) 1 h)
        ∗ owns (c : Thread nD τ) (slotM 2 h) fullShare (partHalf x (go (back (false, 2)) c) 2 h)
        ∗ owns (c : Thread nD τ) (halfM h) fullShare (total x c h) ∗ owns (c : Thread nD τ) (landM c h) fullShare (total x c h)
          -∗ run c (k ⟨⟩) Q) -∗ run c (reduce c h >>= k) Q) := by
  rw [← storeM_eq]
  unfold blank reduce
  simp only [Prog.lift, Prog.bind_op, Prog.bind_ret, Prog.pure_eq_ret]
  iintro ⟨Hx, H0, H1, H2, ⟨%fr, Hr⟩, ⟨%fo, Ho⟩⟩ Hk
  iapply (wp_load 𝒱₀ (c : Thread nD τ) none Set.univ (m := xM) (r := (ownRect c h).toLoadRect) (Finset.subset_univ _)) $$ Hx
  iintro Hx
  iapply (run_load_slot c 0 h) $$ H0
  iintro %a %ha H0
  iapply (run_load_slot c 1 h) $$ H1
  iintro %b %hb H1
  iapply (run_load_slot c 2 h) $$ H2
  iintro %d %hd H2
  have ht : k0_pay1 (F := F) (xM.view.readAt (Elt F) (ownRect c h).toLoadRect (x c)) a b d = total x c h := by
    rw [pay1_eq, ha, hb, hd]; rfl
  iapply (run_put c rM (halfRect h)) $$ Hr
  iintro Hr
  iapply (run_put c oM (storeRect c h)) $$ Ho
  iintro Ho
  iapply Hk
  isplitl [Hx]; · iexact Hx
  isplitl [H0]; · iexact H0
  isplitl [H1]; · iexact H1
  isplitl [H2]; · iexact H2
  isplitl [Hr]
  · iapply ((owns_intro (c : Thread nD τ) (halfM h) fullShare _).trans (Entails.of_eq (congrArg _ ?_)))
    swap; · iexact Hr
    exact (View.read_write_univ ..).trans ((pay2_eq ..).trans ht)
  · iapply ((owns_intro (c : Thread nD τ) (storeM c h) fullShare _).trans (Entails.of_eq (congrArg _ ?_)))
    swap; · iexact Ho
    exact (View.read_write_univ ..).trans ht

end Cert.Exchange

end
-- ==== Proof.Blocks.lean ====
/-
# Splitting the buffers into blocks, and putting them together again

The operand is read under six shares by the six half partials' copies; a half of the reduced block under three by its
copies; the landing buffer and the result are split into the blocks the copies write.
-/
module

public import proofs.«01_k».proof.Proof.Schedule
public import Idealize.ShloMosaic.Lib.Pipeline.BigSepL

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## A buffer and its parts -/

theorem some_intro {ℓ : Loc nD τ sig} (S : Finset (Idx ℓ)) (f : Buf (Elt F) ℓ) :
    (ℓ ↦[S]{fullShare} f : sProp 𝕄) ⊢ iprop(∃ f : Buf (Elt F) ℓ, ℓ ↦[S]{fullShare} f) := by
  iintro H; iexists f; iexact H

section Parts
variable {ℓ : Loc nD τ sig} {T : Type} [Fintype T] [DecidableEq T] (P : T → Finset (Idx ℓ))
  (hd : ∀ t t', t ≠ t' → Disjoint (P t) (P t')) (hc : ∀ i, ∃ t, i ∈ P t)

include hc in
theorem parts_univ : Finset.univ.biUnion P = Finset.univ :=
  Finset.eq_univ_of_forall fun i => let ⟨t, h⟩ := hc i; Finset.mem_biUnion.mpr ⟨t, Finset.mem_univ _, h⟩

include hd hc in
/-- A buffer at given contents is its parts. -/
theorem parts_eq (q : PosShare TreeShare) (f : Buf (Elt F) ℓ) :
    (ℓ ↦[Finset.univ]{q} f : sProp 𝕄) = bigSep Finset.univ fun t => ℓ ↦[P t]{q} f := by
  rw [← parts_univ P hc]
  exact pointsTo_biUnion _ _ fun t _ t' _ h => hd t t' h

include hd hc in
/-- A buffer at some contents is its parts at some contents. -/
theorem parts_some : (iprop(∃ f : Buf (Elt F) ℓ, ℓ ↦[Finset.univ]{fullShare} f) : sProp 𝕄)
    = bigSep Finset.univ fun t => iprop(∃ f : Buf (Elt F) ℓ, ℓ ↦[P t]{fullShare} f) := by
  refine BI.equiv_iff.mp ⟨?_, ?_⟩
  · show iprop(∃ f : Buf (Elt F) ℓ, ℓ ↦[Finset.univ]{fullShare} f) ⊢ (bigSep Finset.univ fun t => iprop(∃ f : Buf (Elt F) ℓ, ℓ ↦[P t]{fullShare} f) : sProp 𝕄)
    iintro ⟨%f, H⟩
    iapply (show (ℓ ↦[Finset.univ]{fullShare} f : sProp 𝕄) ⊢ _ from
      (Entails.of_eq (parts_eq P hd hc fullShare f)).trans (bigSep_mono (Ψ := fun t => iprop(∃ f : Buf (Elt F) ℓ, ℓ ↦[P t]{fullShare} f)) fun t _ => some_intro (P t) f))
    iexact H
  · refine (bigSep_exists_pi Finset.univ fun t (f : Buf (Elt F) ℓ) => (ℓ ↦[P t]{fullShare} f : sProp 𝕄)).trans ?_
    iintro ⟨%fs, H⟩
    ihave H' := (pointsTo_biUnion_join Finset.univ P fs (Classical.choice inferInstance) fun t _ t' _ h => hd t t' h) $$ H
    icases H' with ⟨%g, -, H⟩
    iexists g
    iapply (Entails.of_eq (congrArg (fun S => (ℓ ↦[S]{fullShare} g : sProp 𝕄)) (parts_univ P hc)))
    iexact H

end Parts

/-- Owning a block at what it reads of some contents is owning its elements of those contents. -/
theorem owns_read (c : Dev nD) (m : Memref sig .tc .vmem S512x256 .f32) (q : PosShare TreeShare) (f : Buf (Elt F) (m.view.loc (c : Thread nD τ))) :
    (owns (c : Thread nD τ) m q (m.view.read (Elt F) f) : sProp 𝕄) = (m.view.loc (c : Thread nD τ) ↦[m.view.set]{q} f) := by
  refine BI.equiv_iff.mp ⟨?_, owns_intro (c : Thread nD τ) m q f⟩
  show owns (c : Thread nD τ) m q (m.view.read (Elt F) f) ⊢ (m.view.loc (c : Thread nD τ) ↦[m.view.set]{q} f : sProp 𝕄)
  unfold owns
  iintro ⟨%g, %hg, H⟩
  have h : ∀ i ∈ m.view.set, g i = f i := fun i hi => by
    obtain ⟨j, -, rfl⟩ := Finset.mem_map.mp hi
    exact (cast_inj _).mp (congrFun hg j)
  have e : (m.view.loc (c : Thread nD τ) ↦[m.view.set]{q} g : sProp 𝕄) = m.view.loc (c : Thread nD τ) ↦[m.view.set]{q} f := pointsTo_congr h
  iapply (Entails.of_eq e)
  iexact H

/-! ## Families over the copies -/

variable {M : Type} [URA M]

theorem kind_eq (b : Bool) (Φ : Copy → sProp M) : bigSepL (ofKind b) Φ = bigSep Finset.univ fun t : Fin 3 × Fin 2 => Φ (b, t) := by
  rw [bigSep_univ_eq_bigSepL order order_univ order_nodup]; rfl
theorem bool_eq {α : Type} [Fintype α] (Φ : Bool × α → sProp M) :
    bigSep Finset.univ Φ = iprop((bigSep Finset.univ fun a => Φ (false, a)) ∗ bigSep Finset.univ fun a => Φ (true, a)) := by
  rw [bigSep_univ_prod, bigSep_univ_eq_bigSepL [false, true] (by decide) (by decide)]; rfl
theorem copies_eq (Φ : Copy → sProp M) : bigSep Finset.univ Φ = iprop(bigSepL (ofKind false) Φ ∗ bigSepL (ofKind true) Φ) := by
  rw [bool_eq, kind_eq, kind_eq]
theorem pairs_eq (Φ : Fin 2 → sProp M) : bigSep Finset.univ Φ = iprop(Φ 0 ∗ Φ 1) := bigSep_univ_eq_bigSepL [0, 1] (by decide) (by decide) Φ

/-- The three peers of one kind, in the other order. -/
def flip : Fin 3 × Fin 2 ≃ Fin 3 × Fin 2 := Fin.revPerm.prodCongr (Equiv.refl _)

/-! ## Shares -/

theorem regroup (A B C D : sProp M) : iprop((A ∗ B) ∗ C ∗ D) = iprop(A ∗ C ∗ B ∗ D) := by
  refine BI.equiv_iff.mp ⟨?_, ?_⟩
  · show iprop((A ∗ B) ∗ C ∗ D) ⊢ iprop(A ∗ C ∗ B ∗ D)
    iintro ⟨⟨HA, HB⟩, HC, HD⟩
    isplitl [HA]; · iexact HA
    isplitl [HC]; · iexact HC
    isplitl [HB] <;> iassumption
  · show iprop(A ∗ C ∗ B ∗ D) ⊢ iprop((A ∗ B) ∗ C ∗ D)
    iintro ⟨HA, HC, HB, HD⟩
    isplitl [HA HB]; · isplitl [HA] <;> iassumption
    isplitl [HC] <;> iassumption

section Shares
variable {ℓ : Loc nD τ sig} (f : Buf (Elt F) ℓ)

theorem piece_eq (q : PosShare TreeShare) (P : Finset (Idx ℓ)) :
    (ℓ ↦[Finset.univ]{q} f : sProp 𝕄) = iprop((ℓ ↦[P]{q} f) ∗ ℓ ↦[Finset.univ \ P]{q} f) :=
  have h : (ℓ ↦[Finset.univ]{q} f : sProp 𝕄) ⊣⊢ iprop((ℓ ↦[P]{q} f) ∗ ℓ ↦[Finset.univ \ P]{q} f) := pointsTo_split_subset (Finset.subset_univ P)
  BI.equiv_iff.mp ⟨h.1, h.2⟩

/-- A buffer under eight shares: six parts, one each under six of them, and the rest. -/
theorem eight_eq (P : Fin 3 × Fin 2 → Finset (Idx ℓ)) : (ℓ ↦[Finset.univ]{fullShare} f : sProp 𝕄)
    = iprop((bigSep Finset.univ fun t => ℓ ↦[P t]{shareOf (false, t)} f) ∗ (ℓ ↦[Finset.univ]{ShareLeaves.leaf 3 fullShare 6} f)
        ∗ (bigSep Finset.univ fun t => ℓ ↦[Finset.univ \ P t]{shareOf (false, t)} f) ∗ ℓ ↦[Finset.univ]{ShareLeaves.leaf 3 fullShare 7} f) := by
  rw [ShareLeaves.pointsTo_leaves Finset.univ f 3 fullShare,
    bigSep_univ_eq_bigSepL (order.map (fun t => (Fin.ofNat (2 ^ 3) (2 * t.1.val + t.2.val) : Fin (2 ^ 3))) ++ [6, 7]) (by decide) (by decide),
    bigSepL_append, bigSepL_map, ← bigSep_univ_eq_bigSepL order order_univ order_nodup,
    show (bigSep Finset.univ fun t : Fin 3 × Fin 2 => (ℓ ↦[Finset.univ]{ShareLeaves.leaf 3 fullShare (Fin.ofNat (2 ^ 3) (2 * t.1.val + t.2.val))} f : sProp 𝕄)) = _
      from bigSep_congr fun t _ => piece_eq f (shareOf (false, t)) (P t), bigSep_sep']
  exact regroup _ _ _ _

/-- A block under four shares: three, and the fourth. -/
theorem four_eq (S : Finset (Idx ℓ)) : (ℓ ↦[S]{fullShare} f : sProp 𝕄)
    = iprop((bigSep Finset.univ fun i : Fin 3 => ℓ ↦[S]{ShareLeaves.leaf 2 fullShare (Fin.ofNat (2 ^ 2) i.val)} f)
        ∗ ℓ ↦[S]{ShareLeaves.leaf 2 fullShare 3} f) := by
  rw [ShareLeaves.pointsTo_leaves S f 2 fullShare,
    bigSep_univ_eq_bigSepL ((List.finRange 3).map (fun i => (Fin.ofNat (2 ^ 2) i.val : Fin (2 ^ 2))) ++ [3]) (by decide) (by decide),
    bigSepL_append, bigSepL_map, ← bigSep_univ_eq_bigSepL (List.finRange 3) (by decide) (by decide)]
  rfl

end Shares

variable (x : Dev nD → Operand F) (c : Dev nD)

/-! ## The operand and the reduced block -/

/-- The source of a copy. -/
def source (q : Copy) : sProp 𝕄 := owns (c : Thread nD τ) (srcM c q) (shareOf q) (carried x c q)

/-- The operand, whole, under a share. -/
abbrev operand (q : PosShare TreeShare) : sProp 𝕄 := xM.view.loc (c : Thread nD τ) ↦[Finset.univ]{q} x c
/-- What no copy reads of the operand, and one share more. -/
def operandRest : sProp 𝕄 :=
  iprop((bigSep Finset.univ fun t : Fin 3 × Fin 2 =>
      xM.view.loc (c : Thread nD τ) ↦[Finset.univ \ (partM c t.1 t.2).view.set]{shareOf (false, t)} x c)
    ∗ operand x c (ShareLeaves.leaf 3 fullShare 7))

theorem source_part (t : Fin 3 × Fin 2) : (source x c (false, t) : sProp 𝕄)
    = (xM.view.loc (c : Thread nD τ) ↦[(partM c t.1 t.2).view.set]{shareOf (false, t)} x c) :=
  owns_read c (partM c t.1 t.2) (shareOf (false, t)) (x c)

/-- The operand is the sources of the half partials' copies, the share the reductions read under, and the rest. -/
theorem operand_eq : operand x c fullShare
    = iprop(bigSepL (ofKind false) (source x c) ∗ operand x c (ShareLeaves.leaf 3 fullShare 6) ∗ operandRest x c) := by
  rw [kind_eq, bigSep_congr fun t _ => source_part x c t]
  exact eight_eq (ℓ := xM.view.loc (c : Thread nD τ)) (x c) fun t => (partM c t.1 t.2).view.set

/-- The share of a half of the reduced block no copy reads under. -/
def kept (h : Fin 2) : sProp 𝕄 := owns (c : Thread nD τ) (halfM h) (ShareLeaves.leaf 2 fullShare 3) (total x c h)

theorem half_eq (h : Fin 2) : (owns (c : Thread nD τ) (halfM h) fullShare (total x c h) : sProp 𝕄)
    = iprop(bigSepL (ofHalf true h) (source x c) ∗ kept x c h) := by
  have hs : ∀ i : Fin 3, (source x c (true, i, h) : sProp 𝕄) = _ := fun i =>
    (congrArg (owns (c : Thread nD τ) (halfM h) (shareOf (true, i, h))) (read_reduced x c h).symm).trans (owns_read c (halfM h) _ _)
  have hl : bigSepL (ofHalf true h) (source x c) = bigSep Finset.univ fun i : Fin 3 => source x c (true, i, h) := by
    rw [bigSep_univ_eq_bigSepL [0, 1, 2] (by decide) (by decide)]; rfl
  rw [hl, bigSep_congr fun i _ => hs i, kept, ← read_reduced, owns_read, owns_read]
  exact four_eq _ _

/-! ## The landing buffer and the result -/

theorem slots_eq : (iprop(∃ f : Buf (Elt F) (pM.view.loc (c : Thread nD τ)), pM.view.loc (c : Thread nD τ) ↦[Finset.univ]{fullShare} f) : sProp 𝕄)
    = bigSep Finset.univ fun t : Fin 3 × Fin 2 => blank F c (slotM t.1 t.2) :=
  parts_some (ℓ := pM.view.loc (c : Thread nD τ)) (fun t : Fin 3 × Fin 2 => (slotM t.1 t.2).view.set) slot_disjoint slot_cover
theorem halves_eq : (iprop(∃ f : Buf (Elt F) (rM.view.loc (c : Thread nD τ)), rM.view.loc (c : Thread nD τ) ↦[Finset.univ]{fullShare} f) : sProp 𝕄)
    = bigSep Finset.univ fun h : Fin 2 => blank F c (halfM h) :=
  parts_some (ℓ := rM.view.loc (c : Thread nD τ)) (fun h : Fin 2 => (halfM h).view.set) half_disjoint half_cover

/-- A family over the bands of a column: the own band's, and the others'. -/
theorem bands_eq (Φ : Dev nD → Fin 2 → sProp 𝕄) : (bigSep Finset.univ fun t : Option (Fin 3) × Fin 2 => Φ (bandDev c t.1) t.2)
    = iprop((bigSep Finset.univ fun h => Φ c h) ∗ bigSep Finset.univ fun t : Fin 3 × Fin 2 => Φ (go (true, t.1) c) t.2) := by
  rw [bigSep_univ_prod, bigSep_univ_prod (fun t : Fin 3 × Fin 2 => Φ (go (true, t.1) c) t.2),
    bigSep_univ_eq_bigSepL [none, some 0, some 1, some 2] (by decide) (by decide), bigSep_univ_eq_bigSepL (I := Fin 3) [0, 1, 2] (by decide) (by decide)]
  rfl
theorem lands_eq : (iprop(∃ f : Buf (Elt F) (oM.view.loc (c : Thread nD τ)), oM.view.loc (c : Thread nD τ) ↦[Finset.univ]{fullShare} f) : sProp 𝕄)
    = iprop((bigSep Finset.univ fun h => blank F c (landM c h)) ∗ bigSep Finset.univ fun t : Fin 3 × Fin 2 => blank F c (landM (go (true, t.1) c) t.2)) :=
  (parts_some (ℓ := oM.view.loc (c : Thread nD τ)) (fun t : Option (Fin 3) × Fin 2 => (landM (bandDev c t.1) t.2).view.set) (land_disjoint c) (land_cover c)).trans
    (bands_eq c fun e h => blank F c (landM e h))

/-- The result is the own sums and the sums of the other bands. -/
theorem result_eq : (oM.view.loc (c : Thread nD τ) ↦[Finset.univ]{fullShare} result x c : sProp 𝕄)
    = iprop((bigSep Finset.univ fun h => owns (c : Thread nD τ) (landM c h) fullShare (total x c h))
        ∗ bigSep Finset.univ fun t : Fin 3 × Fin 2 => owns (c : Thread nD τ) (landM (go (true, t.1) c) t.2) fullShare (total x (go (true, t.1) c) t.2)) := by
  refine ((parts_eq (ℓ := oM.view.loc (c : Thread nD τ)) (fun t : Option (Fin 3) × Fin 2 => (landM (bandDev c t.1) t.2).view.set)
    (land_disjoint c) (land_cover c) fullShare (result x c)).trans (bigSep_congr fun t _ => ?_)).trans
      (bands_eq c fun e h => owns (c : Thread nD τ) (landM e h) fullShare (total x e h))
  rw [← read_result x c _ (col_bandDev c t.1) t.2, owns_read]

/-! ## What the entry signals lend -/

/-- The room lent at the six signals is the landing slots and the bands of the others. -/
theorem lent_eq : bigSepL (List.finRange 6) (fun n => lent F (go (sigPeer c n) c) (back (sigPeer c n)))
    = iprop((bigSep Finset.univ fun t : Fin 3 × Fin 2 => blank F c (slotM t.1 t.2))
        ∗ bigSep Finset.univ fun t : Fin 3 × Fin 2 => blank F c (landM (go (true, t.1) c) t.2)) := by
  rw [← bigSepL_map (sigPeer c) (List.finRange 6) fun j => lent F (go j c) (back j),
    ← bigSep_univ_eq_bigSepL _ (sigPeer_perm c).2 (sigPeer_perm c).1, bool_eq, bigSep_univ_equiv flip (fun t : Fin 3 × Fin 2 => blank F c (slotM t.1 t.2)),
    bigSep_univ_prod, bigSep_univ_prod]
  congr 1 <;> refine bigSep_congr fun i _ => bigSep_congr fun h _ => ?_ <;> unfold room <;> rw [go_back] <;> rfl

/-- The room for a device's own copies is what its peers lend it. -/
theorem rooms_eq : bigSep Finset.univ (lent F c)
    = iprop(bigSepL (ofKind false) (fun q => room F c (go (peerOf q) c) q) ∗ bigSepL (ofKind true) (fun q => room F c (go (peerOf q) c) q)) := by
  rw [bool_eq, kind_eq, kind_eq, bigSep_univ_prod, bigSep_univ_prod]
  rfl

end Cert.Exchange

end
-- ==== Proof.Loops.lean ====
/-
# The loops of the body, and the body

The lists of signals, copies and waits, one half of the reduction, and all of the body, by what they need and leave.
-/
module

public import proofs.«01_k».proof.Proof.Reduce
public import proofs.«01_k».proof.Proof.Blocks

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Operand F) (K : Dev nD × Cell → ℕ) (c : Dev nD)

/-! ## What the steps need and leave -/

/-- For the `n`-th entry signal: the unit's token, and the room lent to its addressee. -/
def signalIn (n : Fin 6) : sProp 𝕄 :=
  iprop(dutyTok (ER F) (barC (go (sigPeer c n) c)) 0 (back (sigPeer c n)) ∗ lent F (go (sigPeer c n) c) (back (sigPeer c n)))
/-- The tokens of a copy: for its source read, and for its arrival. -/
def copyToks (q : Copy) : sProp 𝕄 :=
  iprop(dutyTok (ER F) (sentC c q) 0 (false, 0) ∗ dutyTok (ER F) (landC (go (peerOf q) c) q) 0 (false, 0))
/-- For a copy to start: its source, the room for it, its tokens. -/
def sendIn (q : Copy) : sProp 𝕄 := iprop(source x c q ∗ room F c (go (peerOf q) c) q ∗ copyToks c q)
/-- The credit for the wait that a copy's source is read. -/
def sendOut (q : Copy) : sProp 𝕄 := cred (tallyAt (sentC c q) () N)
/-- For the wait on an arrival. -/
def landIn (q : Copy) : sProp 𝕄 := iprop(cred (tallyAt (landC c q) () N) ∗ atPos (ER F) (landC c q) 0 ∅ 0)
/-- What a wait on a copy's cell leaves. -/
def waited (p : Bool × Copy) : sProp 𝕄 := iprop(atPos (ER F) (at_cell c (some p)) 1 ∅ 0 ∗ pay x c (some p) (false, 0))

/-! ## The loops -/

theorem debt_cons {ι : Type} (O : CellTallies nD τ sig Unit) (t : ι → CellTallies nD τ sig Unit) (i : ι) (l : List ι) :
    O + ((i :: l).map t).sum = (O + (l.map t).sum) + t i := by
  rw [List.map_cons, List.sum_cons, add_comm (t i), add_assoc]

theorem debt_nil {ι : Type} (O : CellTallies nD τ sig Unit) (t : ι → CellTallies nD τ sig Unit) : O + (([] : List ι).map t).sum = O := add_zero O

theorem run_signals {Q : PUnit → sProp 𝕄} (O : CellTallies nD τ sig Unit) (l : List (Fin 6)) (k : Steps F) :
    iprop(known x K ∗ ow c (O + (l.map (barT c)).sum) ∗ bigSepL l (signalIn c))
      ⊢ iprop((ow c O ∗ bigSepL l (fun _ => iprop(emp)) -∗ run c k Q) -∗ run c (seq (l.map (signal c)) k) Q) := by
  have h := run_seq c (fun _ => True) (fun l => ow c (O + (l.map (barT c)).sum)) (signalIn c) (fun _ => iprop(emp)) (signal c)
    (fun i l k _ => by
      rw [debt_cons]
      unfold signalIn
      iintro H Hk
      iapply (run_signal x K c k i (O + (l.map (barT c)).sum)) $$ H
      iintro H
      iapply Hk
      isplitl [H]; · iexact H
      iempintro) l k (Q := Q) (fun _ _ => trivial)
  simp only [debt_nil] at h
  exact h

theorem run_sends {Q : PUnit → sProp 𝕄} (O : CellTallies nD τ sig Unit) (l : List Copy) (k : Steps F) :
    iprop(known x K ∗ ow c (O + (l.map (landT c)).sum) ∗ bigSepL l (sendIn x c))
      ⊢ iprop((ow c O ∗ bigSepL l (sendOut c) -∗ run c k Q) -∗ run c (seq (l.map (send c)) k) Q) := by
  have h := run_seq c (fun _ => True) (fun l => ow c (O + (l.map (landT c)).sum)) (sendIn x c) (sendOut c) (send c)
    (fun q l k _ => by
      rw [debt_cons]
      unfold sendIn sendOut source copyToks
      exact run_send x K c k q (O + (l.map (landT c)).sum)) l k (Q := Q) (fun _ _ => trivial)
  simp only [debt_nil] at h
  exact h

theorem run_lands {Q : PUnit → sProp 𝕄} (O : CellTallies nD τ sig Unit) (l : List Copy) (hO : ∀ q ∈ l, Above (levelOf (some (true, q))) O) (k : Steps F) :
    iprop(known x K ∗ ow c O ∗ bigSepL l (landIn c))
      ⊢ iprop((ow c O ∗ bigSepL l (fun q => waited x c (true, q)) -∗ run c k Q) -∗ run c (seq (l.map waitLand) k) Q) :=
  run_seq c (fun q => Above (levelOf (some (true, q))) O) (fun _ => ow c O) (landIn c) (fun q => waited x c (true, q)) waitLand
    (fun q _ k h => run_waitLand x K c k q O h) l k hO

theorem run_sents {Q : PUnit → sProp 𝕄} (l : List Copy) (k : Steps F) :
    iprop(known x K ∗ ow c 0 ∗ bigSepL l (fun q => iprop(sendOut c q ∗ atPos (ER F) (sentC c q) 0 ∅ 0)))
      ⊢ iprop((ow c 0 ∗ bigSepL l (fun q => waited x c (false, q)) -∗ run c k Q) -∗ run c (seq (l.map (waitSent c)) k) Q) :=
  run_seq c (fun _ => True) (fun _ => ow c 0) (fun q => iprop(sendOut c q ∗ atPos (ER F) (sentC c q) 0 ∅ 0)) (fun q => waited x c (false, q)) (waitSent c)
    (fun q _ k _ => run_waitSent x K c k q) l k (fun _ _ => trivial)

/-! ## One half -/

/-- For the copies of a half of the reduced block: the room and the tokens, the sources being made by the reduction. -/
def sumIn (q : Copy) : sProp 𝕄 := iprop(room F c (go (peerOf q) c) q ∗ copyToks c q)
/-- The own band's half of the result, at the sum. -/
def ownSum (h : Fin 2) : sProp 𝕄 := owns (c : Thread nD τ) (landM c h) fullShare (total x c h)

/-- What arrives with a half partial is the slot it was written to. -/
theorem pay_slot (i : Fin 3) (h : Fin 2) : pay x c (some (true, false, i, h)) (false, 0)
    = owns (c : Thread nD τ) (slotM i h) fullShare (partHalf x (go (back (false, i)) c) i h) := rfl

/-- A family over the copies of one half, spelt out. -/
theorem half_list {M : Type} [URA M] (b : Bool) (h : Fin 2) (Φ : Copy → sProp M) :
    bigSepL (ofHalf b h) Φ = iprop(Φ (b, 0, h) ∗ Φ (b, 1, h) ∗ Φ (b, 2, h)) := rfl

/-- Two families over a list, member by member. -/
theorem zip_list {M : Type} [URA M] {ι : Type} (Φ Ψ : ι → sProp M) : ∀ l : List ι,
    iprop(bigSepL l Φ ∗ bigSepL l Ψ) ⊢ bigSepL l fun i => iprop(Φ i ∗ Ψ i)
  | [] => by iintro ⟨H, -⟩; iexact H
  | i :: l => by
    rw [bigSepL_cons', bigSepL_cons', bigSepL_cons']
    iintro ⟨⟨H, Hl⟩, G, Gl⟩
    isplitl [H G]; · isplitl [H] <;> iassumption
    iapply (zip_list Φ Ψ l)
    isplitl [Hl] <;> iassumption

/-- The debt of a half's sums is above the arrivals of the partials. -/
theorem above_half (h : Fin 2) : Above 2 ((ofHalf true h).map (landT c)).sum := by
  rw [show (ofHalf true h).map (landT c) = ([(0, h), (1, h), (2, h)] : List (Fin 3 × Fin 2)).map (fun t => landT c (true, t)) from rfl]
  exact above_list _ (above_landT_true c) _

theorem run_half {Q : PUnit → sProp 𝕄} (h : Fin 2) (s : PosShare TreeShare) (O : CellTallies nD τ sig Unit) (hO : Above 2 O) (k : Steps F) :
    iprop(known x K ∗ ow c (O + ((ofHalf true h).map (landT c)).sum) ∗ bigSepL (ofHalf false h) (landIn c) ∗ operand x c s
        ∗ blank F c (halfM h) ∗ blank F c (landM c h) ∗ bigSepL (ofHalf true h) (sumIn c))
      ⊢ iprop((ow c O ∗ bigSepL (ofHalf false h) (fun q => waited x c (true, q)) ∗ operand x c s ∗ ownSum x c h ∗ kept x c h
            ∗ bigSepL (ofHalf true h) (sendOut c) -∗ run c k Q) -∗ run c (half c h k) Q) := by
  have hA : ∀ q ∈ ofHalf false h, Above (levelOf (some (true, q))) (O + ((ofHalf true h).map (landT c)).sum) := by
    have : Above 2 (O + ((ofHalf true h).map (landT c)).sum) := above_add hO (above_half c h)
    intro q hq
    have hq' : q.1 = false := by
      simp only [ofHalf, List.mem_cons, List.not_mem_nil, or_false] at hq
      rcases hq with rfl | rfl | rfl <;> rfl
    rcases q with ⟨_ | _, t⟩
    · exact this
    · exact absurd hq' Bool.noConfusion
  unfold half ownSum
  iintro ⟨#HR, HO, Hl, Hx, Hr, Ho, Hs⟩ Hk
  iapply (run_lands x K c _ (ofHalf false h) hA) $$ [HO Hl]
  · isplitr; · iexact HR
    isplitl [HO] <;> iassumption
  iintro ⟨HO, Hl⟩
  ihave Hl' := (Entails.of_eq (half_list false h fun q => waited x c (true, q))) $$ Hl
  unfold waited
  icases Hl' with ⟨⟨A0, S0⟩, ⟨A1, S1⟩, A2, S2⟩
  iapply (run_reduce c x h s) $$ [Hx S0 S1 S2 Hr Ho]
  · isplitl [Hx]; · iexact Hx
    isplitl [S0]; · iapply (Entails.of_eq (pay_slot x c 0 h)); iexact S0
    isplitl [S1]; · iapply (Entails.of_eq (pay_slot x c 1 h)); iexact S1
    isplitl [S2]; · iapply (Entails.of_eq (pay_slot x c 2 h)); iexact S2
    isplitl [Hr] <;> iassumption
  iintro ⟨Hx, S0, S1, S2, Hr, Ho⟩
  ihave Hr' := (Entails.of_eq (half_eq x c h)) $$ Hr
  icases Hr' with ⟨Hsrc, Hkept⟩
  ihave Hs' := (zip_list (source x c) (sumIn c) (ofHalf true h)) $$ [Hsrc Hs]
  · isplitl [Hsrc]; · iexact Hsrc
    iexact Hs
  iapply (run_sends x K c O (ofHalf true h)) $$ [HO Hs']
  · isplitr; · iexact HR
    isplitl [HO]; · iexact HO
    iexact Hs'
  iintro ⟨HO, Hout⟩
  iapply Hk
  isplitl [HO]; · iexact HO
  isplitl [A0 A1 A2 S0 S1 S2]
  · iapply (Entails.of_eq (half_list false h fun q => iprop(atPos (ER F) (at_cell c (some (true, q))) 1 ∅ 0 ∗ pay x c (some (true, q)) (false, 0))).symm)
    isplitl [A0 S0]; · isplitl [A0]; · iexact A0
                       iapply (Entails.of_eq (pay_slot x c 0 h).symm); iexact S0
    isplitl [A1 S1]; · isplitl [A1]; · iexact A1
                       iapply (Entails.of_eq (pay_slot x c 1 h).symm); iexact S1
    isplitl [A2]; · iexact A2
    iapply (Entails.of_eq (pay_slot x c 2 h).symm); iexact S2
  isplitl [Hx]; · iexact Hx
  isplitl [Ho]; · iexact Ho
  isplitl [Hkept]; · iexact Hkept
  iexact Hout

/-! ## The body -/

theorem kind_halves {M : Type} [URA M] (b : Bool) (Φ : Copy → sProp M) :
    bigSepL (ofKind b) Φ = iprop(bigSepL (ofHalf b 0) Φ ∗ bigSepL (ofHalf b 1) Φ) := bigSepL_append _ _ _

theorem owedSums_eq : owedSums c = ((ofHalf true 1).map (landT c)).sum + ((ofHalf true 0).map (landT c)).sum := by
  unfold owedSums ofKind
  rw [List.map_append, List.sum_append, add_comm]

/-- What the body starts from, the buffers being split. -/
def before (s : PosShare TreeShare) : sProp 𝕄 :=
  iprop(ow c (owed c) ∗ bigSepL (List.finRange 6) (signalIn c)
    ∗ (cred (tallyAt (barC c) () 6) ∗ atPos (ER F) (barC c) 0 ∅ 0)
    ∗ (bigSepL (ofKind false) (source x c) ∗ bigSepL (ofKind false) (copyToks c) ∗ bigSepL (ofKind true) (copyToks c))
    ∗ (bigSepL (ofKind false) (landIn c) ∗ bigSepL (ofKind true) (landIn c))
    ∗ bigSepL (ofKind false ++ ofKind true) (fun q => atPos (ER F) (sentC c q) 0 ∅ 0)
    ∗ operand x c s ∗ (blank F c (halfM 0) ∗ blank F c (halfM 1)) ∗ blank F c (landM c 0) ∗ blank F c (landM c 1))
/-- What the body leaves. -/
def afterwards (s : PosShare TreeShare) : sProp 𝕄 :=
  iprop(ow c 0 ∗ atPos (ER F) (barC c) 1 ∅ 0
    ∗ (bigSepL (ofKind false) (fun q => waited x c (true, q)) ∗ bigSepL (ofKind true) (fun q => waited x c (true, q)))
    ∗ bigSepL (ofKind false ++ ofKind true) (fun q => waited x c (false, q))
    ∗ operand x c s ∗ (kept x c 0 ∗ kept x c 1) ∗ ownSum x c 0 ∗ ownSum x c 1)

theorem run_program {Q : PUnit → sProp 𝕄} (s : PosShare TreeShare) :
    iprop(known x K ∗ before x c s) ⊢ iprop((afterwards x c s -∗ Q ⟨⟩) -∗ run c (program c) Q) := by
  unfold before afterwards program
  iintro ⟨#HR, HO, Hsig, ⟨Hcb, Hab⟩, ⟨Hsrc, Htf, Htt⟩, ⟨Hlf, Hlt⟩, Hsent, Hx, ⟨Hr0, Hr1⟩, Ho0, Ho1⟩ Hk
  unfold owed
  iapply (run_signals x K c (owedCopies c) (List.finRange 6)) $$ [HO Hsig]
  · isplitr; · iexact HR
    isplitl [HO] <;> iassumption
  iintro ⟨HO, -⟩
  iapply (run_gather x K c _ (owedCopies c) (above_owedCopies c (by decide))) $$ [HO Hcb Hab]
  · isplitr; · iexact HR
    isplitl [HO]; · iexact HO
    isplitl [Hcb] <;> iassumption
  iintro ⟨HO, Hab, Hroom⟩
  ihave Hroom' := (Entails.of_eq (rooms_eq c)) $$ Hroom
  icases Hroom' with ⟨Hrf, Hrt⟩
  ihave Hf := (show _ ⊢ bigSepL (ofKind false) (sumIn (F := F) c) from
    zip_list (fun q => room F c (go (peerOf q) c) q) (copyToks c) (ofKind false)) $$ [Hrf Htf]
  · isplitl [Hrf] <;> iassumption
  ihave Ht := (show _ ⊢ bigSepL (ofKind true) (sumIn (F := F) c) from
    zip_list (fun q => room F c (go (peerOf q) c) q) (copyToks c) (ofKind true)) $$ [Hrt Htt]
  · isplitl [Hrt] <;> iassumption
  ihave Hs := (zip_list (source x c) (sumIn c) (ofKind false)) $$ [Hsrc Hf]
  · isplitl [Hsrc]; · iexact Hsrc
    iexact Hf
  unfold owedCopies
  iapply (run_sends x K c (owedSums c) (ofKind false)) $$ [HO Hs]
  · isplitr; · iexact HR
    isplitl [HO]; · iexact HO
    iexact Hs
  iintro ⟨HO, Houtf⟩
  ihave Ht' := (Entails.of_eq (kind_halves true (sumIn c))) $$ Ht
  icases Ht' with ⟨Ht0, Ht1⟩
  ihave Hlf' := (Entails.of_eq (kind_halves false (landIn c))) $$ Hlf
  icases Hlf' with ⟨Hl0, Hl1⟩
  rw [owedSums_eq]
  iapply (run_half x K c 0 s _ (above_half c 1)) $$ [HO Hl0 Hx Hr0 Ho0 Ht0]
  · isplitr; · iexact HR
    isplitl [HO]; · iexact HO
    isplitl [Hl0]; · iexact Hl0
    isplitl [Hx]; · iexact Hx
    isplitl [Hr0]; · iexact Hr0
    isplitl [Ho0] <;> iassumption
  iintro ⟨HO, Hl0, Hx, Ho0, Hk0, Hout0⟩
  ihave HO' := (Entails.of_eq (congrArg (ow c) (zero_add ((ofHalf true 1).map (landT c)).sum).symm)) $$ HO
  iapply (run_half x K c 1 s 0 (above_zero 2)) $$ [HO' Hl1 Hx Hr1 Ho1 Ht1]
  · isplitr; · iexact HR
    isplitl [HO']; · iexact HO'
    isplitl [Hl1]; · iexact Hl1
    isplitl [Hx]; · iexact Hx
    isplitl [Hr1]; · iexact Hr1
    isplitl [Ho1] <;> iassumption
  iintro ⟨HO, Hl1, Hx, Ho1, Hk1, Hout1⟩
  iapply (run_lands x K c 0 (ofKind true) (fun _ _ => above_zero _)) $$ [HO Hlt]
  · isplitr; · iexact HR
    isplitl [HO] <;> iassumption
  iintro ⟨HO, Hlt⟩
  ihave Hout := (zip_list (sendOut c) (fun q => atPos (ER F) (sentC c q) 0 ∅ 0) (ofKind false ++ ofKind true)) $$ [Houtf Hout0 Hout1 Hsent]
  · isplitr [Hsent]; swap; · iexact Hsent
    iapply (Entails.of_eq (bigSepL_append (ofKind false) (ofKind true) (sendOut c)).symm)
    isplitl [Houtf]; · iexact Houtf
    iapply (Entails.of_eq (kind_halves true (sendOut c)).symm)
    isplitl [Hout0] <;> iassumption
  iapply (run_sents x K c (ofKind false ++ ofKind true)) $$ [HO Hout]
  · isplitr; · iexact HR
    isplitl [HO] <;> iassumption
  iintro ⟨HO, Hsent⟩
  unfold run
  rw [Prog.pure_eq_ret, wp_ret]; imodintro
  iapply Hk
  isplitl [HO]; · iexact HO
  isplitl [Hab]; · iexact Hab
  isplitl [Hl0 Hl1 Hlt]
  · isplitr [Hlt]; swap; · iexact Hlt
    iapply (Entails.of_eq (kind_halves false (fun q => waited x c (true, q))).symm)
    isplitl [Hl0] <;> iassumption
  isplitl [Hsent]; · iexact Hsent
  isplitl [Hx]; · iexact Hx
  isplitl [Hk0 Hk1]; · isplitl [Hk0] <;> iassumption
  isplitl [Ho0] <;> iassumption

end Cert.Exchange

end
-- ==== Proof.Body.lean ====
/-
# The body on whole buffers

A device gets its operand, its scratch buffers and the result's buffer whole, and its tokens, positions and credits by
kind. This file splits them into what the loops need, and puts together what the loops leave: the operand and the
scratch buffers whole again, every semaphore at zero, the result at the sums.
-/
module

public import proofs.«01_k».proof.Proof.Loops

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families over the cells -/

section Families
variable {M : Type} [URA M]

theorem option_eq {α : Type} [Fintype α] (Φ : Option α → sProp M) :
    bigSep Finset.univ Φ = iprop(Φ none ∗ bigSep Finset.univ fun a => Φ (some a)) := by
  rw [bigSep_univ_equiv (Equiv.optionEquivSumPUnit.{0} α).symm Φ, bigSep_univ_sum, bigSep_univ_of_subsingleton PUnit.unit]
  exact BI.equiv_iff.mp ⟨BI.sep_comm, BI.sep_comm (P := Φ none) (Q := bigSep Finset.univ fun a => Φ (some a))⟩

/-- A family over the cells: the barrier's, those of the sources, those of the arrivals. -/
theorem cells_eq (Φ : Cell → sProp M) : bigSep Finset.univ Φ
    = iprop(Φ none ∗ (bigSep Finset.univ fun q : Copy => Φ (some (false, q))) ∗ bigSep Finset.univ fun q : Copy => Φ (some (true, q))) := by
  rw [option_eq, bool_eq]

theorem both_eq (Φ : Copy → sProp M) : bigSepL (ofKind false ++ ofKind true) Φ = bigSep Finset.univ Φ :=
  (bigSepL_append _ _ _).trans (copies_eq Φ).symm

end Families

variable (x : Dev nD → Operand F) (K : Dev nD × Cell → ℕ) (c : Dev nD)

/-! ## What a device has -/

/-- The positions and the tokens it starts with. -/
def dealt : sProp 𝕄 :=
  iprop((bigSep Finset.univ fun i : Cell => atPos (ER F) (at_cell c i) 0 ∅ 0)
    ∗ bigSepL (List.finRange 6) (fun n => dutyTok (ER F) (barC (go (sigPeer c n) c)) 0 (back (sigPeer c n)))
    ∗ bigSep Finset.univ (copyToks c))
/-- The credits it starts with: for the barrier and for the arrivals. -/
def credits : sProp 𝕄 :=
  iprop(cred (tallyAt (barC c) () 6) ∗ bigSep Finset.univ fun q : Copy => cred (tallyAt (landC c q) () N))

/-- The landing buffer, the reduced block's and the result's, whole, at some contents. -/
def someP : sProp 𝕄 := iprop(∃ f : Buf (Elt F) (pM.view.loc (c : Thread nD τ)), pM.view.loc (c : Thread nD τ) ↦[Finset.univ]{fullShare} f)
def someR : sProp 𝕄 := iprop(∃ f : Buf (Elt F) (rM.view.loc (c : Thread nD τ)), rM.view.loc (c : Thread nD τ) ↦[Finset.univ]{fullShare} f)
def someO : sProp 𝕄 := iprop(∃ f : Buf (Elt F) (oM.view.loc (c : Thread nD τ)), oM.view.loc (c : Thread nD τ) ↦[Finset.univ]{fullShare} f)

theorem someP_eq : someP c = bigSep Finset.univ fun t : Fin 3 × Fin 2 => blank F c (slotM t.1 t.2) := slots_eq c
theorem someR_eq : someR c = iprop(blank F c (halfM 0) ∗ blank F c (halfM 1)) := (halves_eq c).trans (pairs_eq _)
theorem someO_eq : someO c = iprop((blank F c (landM c 0) ∗ blank F c (landM c 1))
    ∗ bigSep Finset.univ fun t : Fin 3 × Fin 2 => blank F c (landM (go (true, t.1) c) t.2)) := by
  rw [← pairs_eq fun h => blank F c (landM c h)]
  exact lands_eq c

/-- The share of the operand the reductions read under. -/
abbrev readShare : PosShare TreeShare := ShareLeaves.leaf 3 fullShare 6

/-- Whole buffers and tokens by kind are what the loops start from, and the part of the operand nothing reads. -/
theorem split_up : iprop(ow c (owed c) ∗ dealt c ∗ credits c ∗ operand x c fullShare ∗ someP c ∗ someR c ∗ someO c)
    ⊢ iprop(before x c readShare ∗ operandRest x c) := by
  unfold dealt credits before
  rw [operand_eq, someP_eq, someR_eq, someO_eq, cells_eq]
  iintro ⟨HO, ⟨⟨Hab, Hsent, Hland⟩, Hbt, Hct⟩, ⟨Hcb, Hcl⟩, ⟨Hsrc, Hx, Hrest⟩, Hp, ⟨Hr0, Hr1⟩, ⟨Ho0, Ho1⟩, Hoth⟩
  ihave Hlent := (Entails.of_eq (lent_eq (F := F) c).symm) $$ [Hp Hoth]
  · isplitl [Hp] <;> iassumption
  ihave Hsig := (show _ ⊢ bigSepL (List.finRange 6) (signalIn (F := F) c) from
    zip_list (fun n => dutyTok (ER F) (barC (go (sigPeer c n) c)) 0 (back (sigPeer c n)))
      (fun n => lent F (go (sigPeer c n) c) (back (sigPeer c n))) (List.finRange 6)) $$ [Hbt Hlent]
  · isplitl [Hbt] <;> iassumption
  ihave Hct' := (Entails.of_eq (copies_eq (copyToks (F := F) c))) $$ Hct
  ihave Hl := (show _ ⊢ bigSep Finset.univ (landIn (F := F) c) from
    Entails.of_eq (bigSep_sep' Finset.univ (fun q : Copy => cred (tallyAt (landC c q) () N)) fun q => atPos (ER F) (landC c q) 0 ∅ 0).symm) $$ [Hcl Hland]
  · isplitl [Hcl] <;> iassumption
  ihave Hl' := (Entails.of_eq (copies_eq (landIn (F := F) c))) $$ Hl
  isplitr [Hrest]; swap; · iexact Hrest
  isplitl [HO]; · iexact HO
  isplitl [Hsig]; · iexact Hsig
  isplitl [Hcb Hab]; · isplitl [Hcb] <;> iassumption
  isplitl [Hsrc Hct']; · isplitl [Hsrc] <;> iassumption
  isplitl [Hl']; · iexact Hl'
  isplitl [Hsent]; · iapply (Entails.of_eq (both_eq fun q => atPos (ER F) (sentC c q) 0 ∅ 0).symm); iexact Hsent
  isplitl [Hx]; · iexact Hx
  isplitl [Hr0 Hr1]; · isplitl [Hr0] <;> iassumption
  isplitl [Ho0] <;> iassumption

/-! ## Putting together -/

/-- A cell whose round is over gives back its counter, at zero. -/
theorem close (i : Cell) : iprop(known x K ∗ atPos (ER F) (at_cell c i) 1 ∅ 0) ⊢ (|={Set.univ}=> semVal (at_cell c i) 0 : sProp 𝕄) := by
  iintro ⟨#HR, Hat⟩
  iapply (Rounds.cell_close (ER F) (rd x) (Set.mem_univ (K (c, i))) (fun h => h) (R := 0 + 1) (duties_later x (at_cell c i)))
  isplitr; · iapply (known_inv x K c i); iexact HR
  iexact Hat

theorem close_all : iprop(known x K ∗ bigSep Finset.univ fun i : Cell => atPos (ER F) (at_cell c i) 1 ∅ 0)
    ⊢ (|={Set.univ}=> bigSep Finset.univ fun i : Cell => semVal (at_cell c i) 0 : sProp 𝕄) :=
  (sep_mono_left (BI.bigSep_of_persistent Finset.univ (known x K))).trans
    ((Entails.of_eq (bigSep_sep' _ _ _).symm).trans ((bigSep_mono fun i _ => close x K c i).trans (bigSep_fupd _ _)))

theorem blank_intro (m : Memref sig .tc .vmem S512x256 .f32) (v : HalfBlock F) : owns (c : Thread nD τ) m fullShare v ⊢ blank F c m := by
  unfold owns blank
  iintro ⟨%f, -, H⟩
  iexists f; iexact H

/-- The blocks the partials arrived in are the landing buffer. -/
theorem slots_back : bigSepL (ofKind false) (fun q => pay x c (some (true, q)) (false, 0)) ⊢ someP c := by
  rw [someP_eq, kind_eq]
  exact bigSep_mono fun t _ => (Entails.of_eq (pay_slot x c t.1 t.2)).trans (blank_intro c _ _)

/-- The sources of the sums' copies and what was kept are the reduced block's buffer. -/
theorem halves_back : iprop(bigSepL (ofKind true) (source x c) ∗ kept x c 0 ∗ kept x c 1) ⊢ someR c := by
  rw [someR_eq, kind_halves]
  iintro ⟨⟨H0, H1⟩, K0, K1⟩
  isplitl [H0 K0]
  · iapply (blank_intro c (halfM 0) (total x c 0))
    iapply (Entails.of_eq (half_eq x c 0).symm)
    isplitl [H0] <;> iassumption
  · iapply (blank_intro c (halfM 1) (total x c 1))
    iapply (Entails.of_eq (half_eq x c 1).symm)
    isplitl [H1] <;> iassumption

/-- The own sums and those that arrived are the result. -/
theorem result_back : iprop((ownSum x c 0 ∗ ownSum x c 1) ∗ bigSepL (ofKind true) (fun q => pay x c (some (true, q)) (false, 0)))
    ⊢ (oM.view.loc (c : Thread nD τ) ↦[Finset.univ]{fullShare} result x c) := by
  rw [result_eq, pairs_eq, kind_eq, bigSep_univ_equiv flip
    (fun t : Fin 3 × Fin 2 => owns (c : Thread nD τ) (landM (go (true, t.1) c) t.2) fullShare (total x (go (true, t.1) c) t.2))]
  exact Entails.refl _

/-- What the loops leave is the buffers whole, the result at the sums, and every semaphore at zero. -/
theorem put_together : iprop(known x K ∗ afterwards x c readShare ∗ operandRest x c)
    ⊢ |={Set.univ}=> iprop(ow c 0 ∗ (bigSep Finset.univ fun i : Cell => semVal (at_cell c i) 0)
        ∗ operand x c fullShare ∗ someP c ∗ someR c ∗ oM.view.loc (c : Thread nD τ) ↦[Finset.univ]{fullShare} result x c) := by
  have unzip (b : Bool) : (bigSep Finset.univ fun q : Copy => waited x c (b, q))
      = iprop((bigSep Finset.univ fun q : Copy => atPos (ER F) (at_cell c (some (b, q))) 1 ∅ 0)
        ∗ bigSepL (ofKind false) (fun q => pay x c (some (b, q)) (false, 0)) ∗ bigSepL (ofKind true) fun q => pay x c (some (b, q)) (false, 0)) := by
    unfold waited
    rw [bigSep_sep', copies_eq fun q => pay x c (some (b, q)) (false, 0)]
  unfold afterwards
  rw [both_eq, unzip, ← copies_eq, unzip]
  iintro ⟨#HR, ⟨HO, Hab, ⟨Hal, Hpf, Hpt⟩, ⟨Has, Hsf, Hst⟩, Hx, Hk, Hsum⟩, Hrest⟩
  imod (close_all x K c) $$ [Hab Hal Has] with Hz
  · isplitr; · iexact HR
    iapply (Entails.of_eq (cells_eq fun i => atPos (ER F) (at_cell c i) 1 ∅ 0).symm)
    isplitl [Hab]; · iexact Hab
    isplitl [Has] <;> iassumption
  imodintro
  isplitl [HO]; · iexact HO
  isplitl [Hz]; · iexact Hz
  isplitl [Hsf Hx Hrest]
  · iapply (Entails.of_eq (operand_eq x c).symm)
    isplitl [Hsf]; · iexact Hsf
    isplitl [Hx] <;> iassumption
  isplitl [Hpf]; · iapply (slots_back x c); iexact Hpf
  isplitl [Hst Hk]
  · iapply (halves_back x c)
    isplitl [Hst]; · iexact Hst
    iexact Hk
  iapply (result_back x c)
  isplitl [Hsum] <;> iassumption

/-! ## The body -/

theorem run_body {Q : PUnit → sProp 𝕄} :
    iprop(known x K ∗ ow c (owed c) ∗ dealt c ∗ credits c ∗ operand x c fullShare ∗ someP c ∗ someR c ∗ someO c)
      ⊢ iprop((ow c 0 ∗ (bigSep Finset.univ fun i : Cell => semVal (at_cell c i) 0) ∗ operand x c fullShare ∗ someP c ∗ someR c
            ∗ (oM.view.loc (c : Thread nD τ) ↦[Finset.univ]{fullShare} result x c) -∗ Q ⟨⟩)
          -∗ run c (cc0_body xM (Memref.isWhole_whole _) oM (Memref.isWhole_whole _) pM (Memref.isWhole_whole _)
            rM (Memref.isWhole_whole _) cc0_scratch2 cc0_scratch3 cc0_scratch4 cc0_scratch5) Q) := by
  rw [body_eq]
  iintro ⟨#HR, H⟩ Hk
  ihave H' := (split_up x c) $$ H
  icases H' with ⟨H, Hrest⟩
  simp only [Prog.lift, Prog.bind_op, Prog.bind_ret]
  unfold run
  rw [wp_deviceId]
  iapply (wp_fupd frame (wpE (defs₀ (F := F)) 𝒱₀ (c : Thread nD τ) none) Set.univ (program c) Q)
  iapply (run_program x K c readShare) $$ [H]
  · isplitr; · iexact HR
    iexact H
  iintro H
  imod (put_together x K c) $$ [H Hrest] with H
  · isplitr; · iexact HR
    isplitl [H] <;> iassumption
  imodintro
  iapply Hk; iexact H

end Cert.Exchange

end
-- ==== Proof.Deal.lean ====
/-
# What the launch deals

Every cell of the kernel is opened for its one round, and the tokens minted with the cells go to the devices that pay:
a barrier's to its six peers, an arrival's to the device the copy comes from. A rotation at a time, dealing them is
reindexing the devices.
-/
module

public import proofs.«01_k».proof.Proof.Body
public import proofs.«01_k».proof.Proof.Gen.KernelIdeal.Launch

@[expose] public section

noncomputable section

namespace Cert.Exchange

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the tokens -/

theorem cell_injective : Function.Injective fun p : Dev nD × Cell => at_cell p.1 p.2 := fun p p' h =>
  Prod.ext (at_cell_inj _ _ _ _ h).1 (at_cell_inj _ _ _ _ h).2
def allCells : Finset (GSem nD τ sig) := Finset.univ.map ⟨_, cell_injective⟩

/-- The payments of one device's cells: to the barrier by each peer, to each copy's cell one. -/
abbrev Payment : Type := Peer ⊕ (Bool × Copy)
def cellPaid : Payment → Cell
  | .inl _ => none
  | .inr p => some p
def payer : Payment → Peer
  | .inl j => j
  | .inr _ => (false, 0)
theorem payment_inj : ∀ t t' : Payment, cellPaid t = cellPaid t' → payer t = payer t' → t = t'
  | .inl _, .inl _, _, h => congrArg Sum.inl h
  | .inl _, .inr _, h, _ => nomatch h
  | .inr _, .inl _, h, _ => nomatch h
  | .inr _, .inr _, h, _ => congrArg Sum.inr (Option.some.inj h)

abbrev tokenOf (p : Dev nD × Payment) : GSem nD τ sig × ℕ × Peer := (at_cell p.1 (cellPaid p.2), 0, payer p.2)
theorem token_injective : Function.Injective tokenOf := fun p p' h => by
  have hc := at_cell_inj _ _ _ _ (congrArg Prod.fst h)
  exact Prod.ext hc.1 (payment_inj _ _ hc.2 (congrArg (fun t : GSem nD τ sig × ℕ × Peer => t.2.2) h))
def allTokens : Finset (GSem nD τ sig × ℕ × Peer) := Finset.univ.map ⟨tokenOf, token_injective⟩

/-- The tokens of device `c`'s own cells. -/
def minted (c : Dev nD) : sProp 𝕄 := bigSep Finset.univ fun t : Payment => dutyTok (ER F) (at_cell c (cellPaid t)) 0 (payer t)
/-- The tokens device `c` pays with. -/
def payWith (c : Dev nD) : sProp 𝕄 :=
  iprop(bigSepL (List.finRange 6) (fun n => dutyTok (ER F) (barC (go (sigPeer c n) c)) 0 (back (sigPeer c n)))
    ∗ bigSep Finset.univ (copyToks c))

/-! ## Dealing the tokens -/

/-- A family over devices and rotations, each rotation's members taken at the device it leads to. -/
theorem rotate {M : Type} [URA M] {J : Type} [Fintype J] (f : J → Peer) (Φ : Dev nD → J → sProp M) :
    (bigSep Finset.univ fun c => bigSep Finset.univ fun j => Φ c j) = bigSep Finset.univ fun c => bigSep Finset.univ fun j => Φ (go (f j) c) j := by
  rw [bigSep_univ_comm, bigSep_univ_comm (fun c j => Φ (go (f j) c) j)]
  exact bigSep_congr fun j _ => bigSep_univ_equiv (goEquiv (f j)) fun c => Φ c j

def backEquiv : Peer ≃ Peer := ⟨back, back, back_back, back_back⟩

theorem deal_tokens : (bigSep Finset.univ fun c => minted (F := F) c) = bigSep Finset.univ fun c => payWith c := by
  have hbar : (bigSep Finset.univ fun c : Dev nD => bigSep Finset.univ fun j : Peer => (dutyTok (ER F) (barC c) 0 j : sProp 𝕄))
      = bigSep Finset.univ fun c : Dev nD => bigSepL (List.finRange 6) fun n => dutyTok (ER F) (barC (go (sigPeer c n) c)) 0 (back (sigPeer c n)) := by
    rw [bigSep_congr fun (c : Dev nD) _ => bigSep_univ_equiv backEquiv fun j : Peer => (dutyTok (ER F) (barC c) 0 j : sProp 𝕄),
      rotate id]
    exact bigSep_congr fun c _ => by
      rw [bigSep_univ_eq_bigSepL _ (sigPeer_perm c).2 (sigPeer_perm c).1, bigSepL_map]; rfl
  have hmint : ∀ c : Dev nD, minted (F := F) c = iprop((bigSep Finset.univ fun j : Peer => dutyTok (ER F) (barC c) 0 j)
      ∗ (bigSep Finset.univ fun q : Copy => dutyTok (ER F) (sentC c q) 0 (false, 0))
      ∗ bigSep Finset.univ fun q : Copy => dutyTok (ER F) (landC c q) 0 (false, 0)) := fun c => by
    unfold minted
    rw [bigSep_univ_sum, bool_eq fun p : Bool × Copy => dutyTok (ER F) (at_cell c (cellPaid (Sum.inr p))) 0 (payer (Sum.inr p))]; rfl
  have hpay : ∀ c : Dev nD, payWith (F := F) c
      = iprop(bigSepL (List.finRange 6) (fun n => dutyTok (ER F) (barC (go (sigPeer c n) c)) 0 (back (sigPeer c n)))
      ∗ (bigSep Finset.univ fun q : Copy => dutyTok (ER F) (sentC c q) 0 (false, 0))
      ∗ bigSep Finset.univ fun q : Copy => dutyTok (ER F) (landC (go (peerOf q) c) q) 0 (false, 0)) := fun c => by
    unfold payWith copyToks
    rw [bigSep_sep']
  rw [bigSep_congr fun c _ => hmint c, bigSep_congr fun c _ => hpay c, bigSep_sep', bigSep_sep', bigSep_sep', bigSep_sep', hbar,
    rotate peerOf fun (c : Dev nD) (q : Copy) => dutyTok (ER F) (landC c q) 0 (false, 0)]

/-! ## The cells opened -/

variable (x : Dev nD → Operand F)

/-- What is known of the cells: their invariants, and that each is at its round. -/
def opened (K : Dev nD × Cell → ℕ) : sProp 𝕄 :=
  iprop((bigSep Finset.univ fun p : Dev nD × Cell => cellInv (ER F) (rd x) (K p) (at_cell p.1 p.2))
    ∗ bigSep Finset.univ fun p : Dev nD × Cell => reached (ER F) (at_cell p.1 p.2) 0)
instance opened_persistent (K : Dev nD × Cell → ℕ) : BI.Persistent (opened x K) := by unfold opened; infer_instance

/-- What the launch mints for device `c`, and what opening all cells makes of it. -/
def given (c : Dev nD) : sProp 𝕄 :=
  iprop((bigSep Finset.univ fun i : Cell => roundState (ER F) (rd x) (at_cell c i) 0)
    ∗ (bigSep Finset.univ fun i : Cell => atPos (ER F) (at_cell c i) 0 ∅ 0)
    ∗ (bigSep Finset.univ fun i : Cell => reached (ER F) (at_cell c i) 0) ∗ minted c)
def dealtOut (c : Dev nD) : sProp 𝕄 := iprop(∃ K, opened x K ∗ dealt c)

theorem mint : BI.own (ER F (initOf allCells allTokens)) ⊢ (|==> bigSep Finset.univ (given x) : sProp 𝕄) := by
  have hc (Φ : GSem nD τ sig → sProp 𝕄) : bigSep allCells Φ = bigSep Finset.univ fun c : Dev nD => bigSep Finset.univ fun i : Cell => Φ (at_cell c i) := by
    unfold allCells; rw [bigSep_map, bigSep_univ_prod]; rfl
  have ht : bigSep allTokens (fun t => (dutyTok (ER F) t.1 t.2.1 t.2.2 : sProp 𝕄)) = bigSep Finset.univ fun c : Dev nD => minted c := by
    unfold allTokens; rw [bigSep_map, bigSep_univ_prod]; rfl
  iintro H
  imod (Rounds.fund (ER F) (rd x) allCells allTokens) $$ H with ⟨Hst, Hr, Hat, Htok⟩
  imodintro
  unfold given
  rw [bigSep_sep', bigSep_sep', bigSep_sep', ← hc fun g => roundState (ER F) (rd x) g 0, ← hc fun g => atPos (ER F) g 0 ∅ 0,
    ← hc fun g => reached (ER F) g 0, ← ht]
  isplitl [Hst]; · iexact Hst
  isplitl [Hat]; · iexact Hat
  isplitl [Hr] <;> iassumption

theorem unscoped_eq (c : Dev nD) : (unscopedSems0 c : sProp 𝕄) = semVal (barC c) 0 := by
  unfold unscopedSems0; rw [bigSep_eq_bigSepL_of_eq [SemLoc.reg barS] (by decide) (by decide)]; rfl

/-- The semaphores of one device at zero: the copies' own, and the barrier. -/
theorem sems_eq (c : Dev nD) : (bigSep Finset.univ fun i : Cell => semVal (at_cell c i) 0 : sProp 𝕄)
    = iprop(unscopedSems0 c ∗ Pipeline.ownSems0 (Ix := Unit) (Name := ℕ) (U := UU) (Lvl := ℕ) (Val := Elt F) (τ := τ) copySem c) := by
  rw [option_eq, unscoped_eq]; rfl

theorem open_cells (c : Dev nD) :
    iprop(Pipeline.ownSems0 (Ix := Unit) (Name := ℕ) (U := UU) (Lvl := ℕ) (Val := Elt F) (τ := τ) copySem c ∗ unscopedSems0 c ∗ given x c)
      ⊢ |={Set.univ}=> iprop((bigSep Finset.univ fun i : Cell => iprop(∃ κ : ℕ, cellInv (ER F) (rd x) κ (at_cell c i)))
          ∗ (bigSep Finset.univ fun i : Cell => atPos (ER F) (at_cell c i) 0 ∅ 0)
          ∗ (bigSep Finset.univ fun i : Cell => reached (ER F) (at_cell c i) 0) ∗ minted c) := by
  unfold given
  iintro ⟨Hos, Hus, Hst, Hrest⟩
  ihave Hv := (Entails.of_eq (sems_eq (F := F) c).symm) $$ [Hos Hus]
  · isplitl [Hus] <;> iassumption
  imod (show iprop((bigSep Finset.univ fun i : Cell => semVal (at_cell c i) 0) ∗ bigSep Finset.univ fun i : Cell => roundState (ER F) (rd x) (at_cell c i) 0)
      ⊢ (|={Set.univ}=> bigSep Finset.univ fun i : Cell => iprop(∃ κ : ℕ, cellInv (ER F) (rd x) κ (at_cell c i)) : sProp 𝕄) from by
        rw [← bigSep_sep']
        exact (bigSep_mono fun i _ => (Rounds.body_intro (ER F) (rd x) (at_cell c i)).trans inv_alloc).trans (bigSep_fupd _ _)) $$ [Hv Hst] with Hinv
  · isplitl [Hv] <;> iassumption
  imodintro
  isplitl [Hinv] <;> iassumption

theorem share_out :
    (bigSep Finset.univ fun c : Dev nD => iprop((bigSep Finset.univ fun i : Cell => iprop(∃ κ : ℕ, cellInv (ER F) (rd x) κ (at_cell c i)))
          ∗ (bigSep Finset.univ fun i : Cell => atPos (ER F) (at_cell c i) 0 ∅ 0)
          ∗ (bigSep Finset.univ fun i : Cell => reached (ER F) (at_cell c i) 0) ∗ minted c) : sProp 𝕄)
      ⊢ bigSep Finset.univ (dealtOut x) := by
  rw [bigSep_sep', bigSep_sep', bigSep_sep', ← bigSep_univ_prod (fun p : Dev nD × Cell => iprop(∃ κ : ℕ, cellInv (ER F) (rd x) κ (at_cell p.1 p.2))),
    ← bigSep_univ_prod (fun p : Dev nD × Cell => (reached (ER F) (at_cell p.1 p.2) 0 : sProp 𝕄)), deal_tokens]
  iintro ⟨HI, Hat, #HR, Htok⟩
  ihave HK := (BI.bigSep_exists_pi Finset.univ (fun (p : Dev nD × Cell) (κ : ℕ) => (cellInv (ER F) (rd x) κ (at_cell p.1 p.2) : sProp 𝕄))) $$ HI
  icases HK with ⟨%K, #HI⟩
  have hone : ∀ c : Dev nD, iprop(opened x K ∗ dealt c) ⊢ dealtOut x c := fun c => by
    unfold dealtOut
    iintro H
    iexists K; iexact H
  have hall : iprop(opened x K ∗ bigSep Finset.univ fun c : Dev nD => dealt (F := F) c) ⊢ bigSep Finset.univ (dealtOut x) :=
    (sep_mono_left (BI.bigSep_of_persistent Finset.univ (opened x K))).trans
      ((Entails.of_eq (bigSep_sep' _ _ _).symm).trans (bigSep_mono fun c _ => hone c))
  iapply hall
  isplitr
  · unfold opened
    isplitl; · iexact HI
    iexact HR
  · iapply (show _ ⊢ (bigSep Finset.univ fun c : Dev nD => dealt (F := F) c) from
      Entails.of_eq (bigSep_sep' Finset.univ (fun c : Dev nD => bigSep Finset.univ fun i : Cell => (atPos (ER F) (at_cell c i) 0 ∅ 0 : sProp 𝕄)) payWith).symm)
    isplitl [Hat] <;> iassumption

/-- All cells of all devices, opened at once. -/
theorem deal_all : (bigSep Finset.univ fun c => iprop(Pipeline.ownSems0 (Ix := Unit) (Name := ℕ) (U := UU) (Lvl := ℕ) (Val := Elt F) (τ := τ) copySem c
        ∗ unscopedSems0 c ∗ given x c) : sProp 𝕄)
    ⊢ |={Set.univ}=> bigSep Finset.univ (dealtOut x) :=
  ((bigSep_mono fun c _ => open_cells x c).trans (bigSep_fupd _ _)).trans (BI.fupd_mono (share_out x))

end Cert.Exchange

end
-- ==== Proof.Credits.lean ====
/-
# The credits at launch

What a device is credited with at launch is what all devices together owe its cells: six units at the barrier, one
half block at each cell a copy arrives on.
-/
module

public import proofs.«01_k».proof.Proof.Body

@[expose] public section

noncomputable section

namespace Cert.Exchange

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Counting -/

/-- What a list of debts owes a cell. -/
theorem sum_at {ι : Type} (t : ι → CellTallies nD τ sig Unit) (g : GSem nD τ sig) : ∀ l : List ι,
    (l.map t).sum g () = (l.map fun i => t i g ()).sum
  | [] => rfl
  | i :: l => by
    rw [List.map_cons, List.sum_cons, List.map_cons, List.sum_cons, Pi.add_apply, Finsupp.add_apply, sum_at t g l]

/-- What a debt of `k` to one cell owes another. -/
theorem tally_cell (c d : Dev nD) (i i' : Cell) (k : ℕ) :
    (tallyAt (at_cell d i') () k : CellTallies nD τ sig Unit) (at_cell c i) () = if d = c ∧ i' = i then k else 0 := by
  rw [tallyAt_apply]
  by_cases h : d = c ∧ i' = i
  · rw [if_pos h, h.1, h.2, if_pos ⟨rfl, rfl⟩]
  · rw [if_neg h, if_neg fun ⟨h', _⟩ => h ⟨(at_cell_inj _ _ _ _ h').1.symm, (at_cell_inj _ _ _ _ h').2.symm⟩]

/-- How many of device `d`'s signals go to device `c`; how many of its copies arrive on the cell of `q` there. -/
def signalsTo (c d : Dev nD) : ℕ := ((List.finRange 6).map fun n => if go (sigPeer d n) d = c then 1 else 0).sum
def copiesTo (c : Dev nD) (q : Copy) (d : Dev nD) : ℕ :=
  ((ofKind true ++ ofKind false).map fun q' => if go (peerOf q') d = c ∧ q' = q then 1 else 0).sum

theorem six_signals : ∀ c : Dev nD, ∑ d : Dev nD, signalsTo c d = 6 := by decide +kernel
theorem one_copy : ∀ (c : Dev nD) (q : Copy), ∑ d : Dev nD, copiesTo c q d = 1 := by decide +kernel

theorem barT_bar (c d : Dev nD) (n : Fin 6) : barT d n (barC c) () = if go (sigPeer d n) d = c then 1 else 0 :=
  (tally_cell c _ none none 1).trans (by simp)
theorem barT_land (c d : Dev nD) (n : Fin 6) (q : Copy) : barT d n (landC c q) () = 0 :=
  (tally_cell c _ (some (true, q)) none 1).trans (by simp)
theorem landT_bar (c d : Dev nD) (q : Copy) : landT d q (barC c) () = 0 :=
  (tally_cell c _ none (some (true, q)) N).trans (by simp)
theorem landT_land (c d : Dev nD) (q q' : Copy) : landT d q' (landC c q) () = (if go (peerOf q') d = c ∧ q' = q then 1 else 0) * N :=
  (tally_cell c _ (some (true, q)) (some (true, q')) N).trans (by simp)

theorem owed_bar (c d : Dev nD) : owed d (barC c) () = signalsTo c d := by
  unfold owed owedCopies owedSums signalsTo
  rw [Pi.add_apply, Finsupp.add_apply, Pi.add_apply, Finsupp.add_apply, sum_at, sum_at, sum_at]
  rw [List.map_congr_left fun n (_ : n ∈ List.finRange 6) => barT_bar c d n, List.map_congr_left fun q (_ : q ∈ ofKind true) => landT_bar c d q,
    List.map_congr_left fun q (_ : q ∈ ofKind false) => landT_bar c d q]
  simp
theorem owed_land (c d : Dev nD) (q : Copy) : owed d (landC c q) () = copiesTo c q d * N := by
  unfold owed owedCopies owedSums copiesTo
  rw [Pi.add_apply, Finsupp.add_apply, Pi.add_apply, Finsupp.add_apply, sum_at, sum_at, sum_at, List.map_append, List.sum_append, add_mul,
    ← List.sum_map_mul_right, ← List.sum_map_mul_right]
  rw [List.map_congr_left fun n (_ : n ∈ List.finRange 6) => barT_land c d n q,
    List.map_congr_left fun q' (_ : q' ∈ ofKind true) => landT_land c d q q',
    List.map_congr_left fun q' (_ : q' ∈ ofKind false) => landT_land c d q q']
  simp

/-! ## The credits -/

theorem credit_bar (c : Dev nD) :
    tallyOn (barC c) (launchCredit (Pipeline.owing owed) 0 (barC c)) = (tallyAt (barC c) () 6 : CellTallies nD τ sig Unit) := by
  unfold tallyAt; refine congrArg _ (Finsupp.ext fun u => ?_); cases u
  rw [Pipeline.launchCredit_owing, Finsupp.single_eq_same, Finset.sum_congr rfl fun d _ => owed_bar c d, six_signals]
theorem credit_land (c : Dev nD) (q : Copy) :
    tallyOn (landC c q) (launchCredit (Pipeline.owing owed) 0 (landC c q)) = (tallyAt (landC c q) () N : CellTallies nD τ sig Unit) := by
  unfold tallyAt; refine congrArg _ (Finsupp.ext fun u => ?_); cases u
  rw [Pipeline.launchCredit_owing, Finsupp.single_eq_same, Finset.sum_congr rfl fun d _ => owed_land c d q, ← Finset.sum_mul, one_copy, one_mul]

/-- The cells credited at launch. -/
def creditedCell : Option Copy → Cell := Option.map (Prod.mk true)
theorem credited_injective : Function.Injective fun o : Option Copy => cellSem (creditedCell o) := fun o o' h =>
  Option.map_injective (Prod.mk_right_injective true) (cellSem_inj _ _ h)

theorem credits_intro (c : Dev nD) : (Pipeline.launchCred owed c : sProp 𝕄) ⊢ credits c := by
  unfold Pipeline.launchCred
  refine (bigSep_subset (Finset.subset_univ (Finset.univ.map ⟨_, credited_injective⟩))).trans ?_
  rw [bigSep_map, option_eq]
  unfold credits
  rw [← credit_bar, bigSep_congr fun (q : Copy) _ => show (cred (tallyAt (landC c q) () N) : sProp 𝕄) = _ by rw [← credit_land]]
  exact Entails.refl _

end Cert.Exchange

end
-- ==== Proof.Launch.lean ====
/-
# The launch

The kernel's one grid point as the launch runs it: the operand staged, the body, the result written back; then the run
of all sixteen devices together, for any float values.
-/
module

public import proofs.«01_k».proof.Proof.Deal
public import proofs.«01_k».proof.Proof.Credits
public import proofs.«01_k».proof.Proof.Gen.KernelIdeal.Points
public import Idealize.ShloMosaic.Lib.Pipeline.CollectiveSegs

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The point -/

/-- The operand each device stages. -/
def staged (c : Dev nD) : Operand F := (win0_0.blk (0 : Fin 1)).view.read (Elt F) (m ((c : Thread nD τ).loc main_arg0))

/-- What a device has before the point and after it, apart from the staging buffers. -/
def atStart (c : Dev nD) : sProp 𝕄 := iprop(dealtOut (staged m) c ∗ levAts L lv ∗ credits c)
def atPoint (c : Dev nD) : sProp 𝕄 := iprop(atStart m c ∗ someP c ∗ someR c)
def atEnd (c : Dev nD) : sProp 𝕄 := iprop((bigSep Finset.univ fun i : Cell => semVal (at_cell c i) 0) ∗ someP c ∗ someR c)

def dats (_ : Fin 1) (c : Dev nD) : Dat τ (Elt F) Unit ℕ UU ℕ cfg0 c where
  A w := m ((cfg0.win w).arr.view.loc (c : Thread nD τ))
  after w _ := match w with
    | ⟨0, _⟩ => staged m c
    | ⟨1, _⟩ => result (staged m) c
  Φ t := match t with
    | ⟨0, _⟩ => atPoint m c
    | ⟨_ + 1, _⟩ => atEnd c
  q _ := fullShare
  owed t := match t with
    | ⟨0, _⟩ => owed c
    | ⟨_ + 1, _⟩ => 0

/-- A staging buffer, whole, at given contents. -/
def stage (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

theorem stage_eq (c : Dev nD) (b : Ref sig .tc) (X : b.ty.Contents (Elt F)) :
    (owns (Ix := Unit) (Name := ℕ) (U := UU) (Lvl := ℕ) (c : Thread nD τ) (Memref.whole b) fullShare X : sProp 𝕄) = stage c b X := by
  unfold owns stage; simp only [Memref.view_whole, View.read_whole, View.set_whole]

set_option maxRecDepth 4000 in
def pointPre (c : Dev nD) : sProp 𝕄 :=
  iprop(atPoint m c ∗ (dats m 0 c).owesAt () t0_0.castSucc
    ∗ (∃ d, stage c cc0_stg0_0 ((dats m 0 c).before (0 : Fin 2) t0_0 d))
    ∗ (∃ d, stage c cc0_stg1_0 ((dats m 0 c).before (1 : Fin 2) t0_0 d)))
def pointPost (c : Dev nD) : sProp 𝕄 :=
  iprop(atEnd c ∗ (dats m 0 c).owesAt () t0_0.succ ∗ stage c cc0_stg0_0 (staged m c) ∗ stage c cc0_stg1_0 (result (staged m) c))

theorem owes_before (c : Dev nD) : (dats m 0 c).owesAt () t0_0.castSucc ⊢ (ow c (owed c) : sProp 𝕄) := by
  unfold Dat.owesAt Pipeline.owesWithin ow
  iintro ⟨%W, -, H⟩
  iexists W; iexact H
theorem owes_after (c : Dev nD) : (ow c 0 : sProp 𝕄) ⊢ (dats m 0 c).owesAt () t0_0.succ := by
  unfold Dat.owesAt Pipeline.owesWithin ow
  iintro ⟨%W, H⟩
  iexists W
  isplitr; · ipureintro; exact fun _ _ => Or.inl trivial
  iexact H

/-- The operand's staging buffer holds the operand. -/
theorem stage_operand (c : Dev nD) (d : Operand F) : (dats m 0 c).before (0 : Fin 2) t0_0 d = staged m c := by
  unfold Dat.before; rw [if_pos (fetch0_0 t0_0)]; rfl

theorem known_intro (x : Dev nD → Operand F) (K : Dev nD × Cell → ℕ) : iprop(opened x K ∗ levAts L lv) ⊢ known x K := by
  unfold opened known
  iintro ⟨⟨HI, HR⟩, HL⟩
  isplitl [HI]; · iexact HI
  isplitl [HR] <;> iassumption

theorem point (c : Dev nD) : pointPre m c ⊢ run c
    (cc0_body xM (Memref.isWhole_whole _) oM (Memref.isWhole_whole _) pM (Memref.isWhole_whole _) rM (Memref.isWhole_whole _)
      cc0_scratch2 cc0_scratch3 cc0_scratch4 cc0_scratch5) (fun _ => pointPost m c) := by
  unfold pointPre atPoint atStart dealtOut stage
  iintro ⟨⟨⟨⟨%K, #HR, Hd⟩, #Hlev, Hcr⟩, Hp, Hr⟩, Ho, ⟨%d, %f, %hf, Hx⟩, ⟨%d', %f', -, Hout⟩⟩
  rw [stage_operand] at hf
  subst hf
  ihave HO := (owes_before m c) $$ Ho
  ihave Hk := (known_intro (staged m) K) $$ [HR Hlev]
  · isplitr; · iexact HR
    iexact Hlev
  iapply (run_body (staged m) K c) $$ [Hk HO Hd Hcr Hx Hp Hr Hout]
  · isplitl [Hk]; · iexact Hk
    isplitl [HO]; · iexact HO
    isplitl [Hd]; · iexact Hd
    isplitl [Hcr]; · iexact Hcr
    isplitl [Hx]; · iexact Hx
    isplitl [Hp]; · iexact Hp
    isplitl [Hr]; · iexact Hr
    unfold someO
    iexists f'; iexact Hout
  iintro ⟨HO, Hz, Hx, Hp, Hr, Hout⟩
  unfold pointPost atEnd stage
  isplitl [Hz Hp Hr]
  · isplitl [Hz]; · iexact Hz
    isplitl [Hp] <;> iassumption
  isplitl [HO]; · iapply (owes_after m c); iexact HO
  isplitl [Hx]
  · iexists _; isplitr; · (ipureintro; rfl)
    iexact Hx
  iexists _; isplitr; · (ipureintro; rfl)
  iexact Hout

set_option maxRecDepth 4000 in
theorem body_obligation (c : Dev nD) : BodyObligation (dats (F := F) m 0 c) (defs₀ (F := F)) 𝒱₀ () Set.univ := fun t => by
  rw [fin_N0 t]
  rw [bigSep_W0, bigSep_W0]
  simp only [stage_eq]
  exact point m c

/-! ## The launch -/

theorem ownSemFacts : Pipeline.OwnSemFacts cfg0.spec copySem := by decide +kernel

theorem share_eq (c : Dev nD) (w : Fin cfg0.W) : (dats m 0 c).share w = fullShare := by unfold Dat.share; split <;> rfl

def launchElt : UU :=
  (initOf (Pipeline.cells cfgs cellOf_inj) (Pipeline.launchToks cfgs cellOf_inj), initOf allCells allTokens)

theorem start_intro (c : Dev nD) :
    iprop(Pipeline.unscopedRestP Pipeline.Prefetch.none cfg0.spec c (fun b => m ((c : Thread nD τ).loc b)) ∗ levAts L lv
        ∗ Pipeline.launchCred owed c ∗ prngReg c (ρ c) ∗ dealtOut (staged m) c)
      ⊢ |={Set.univ}=> iprop(atStart m c ∗ emp) := by
  iintro ⟨-, Hlev, Hcr, -, HG⟩
  ihave Hc := (credits_intro (F := F) c) $$ Hcr
  imodintro
  unfold atStart
  isplitl
  · isplitl [HG]; · iexact HG
    isplitl [Hlev] <;> iassumption
  · iempintro

theorem point_intro (c : Dev nD) :
    iprop(atStart m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = atPoint m c from rfl, scopedRest0_eq]
  unfold atPoint someP someR
  iintro ⟨Hs, -, Hp, Hr⟩
  isplitl [Hs]; · iexact Hs
  isplitl [Hp]; · iexact Hp
  iexact Hr

theorem point_exit (c : Dev nD) :
    (dats m 0 c).Φ (Fin.last cfg0.N) ⊢ iprop(unscopedSems0 c ∗ Pipeline.ownSems0 copySem c ∗ Pipeline.scopedRest cfg0.spec c) := by
  rw [show (dats m 0 c).Φ (Fin.last cfg0.N) = atEnd c from rfl, scopedRest0_eq]
  unfold atEnd someP someR
  rw [sems_eq]
  iintro ⟨⟨Hu, Ho⟩, Hp, Hr⟩
  isplitl [Hu]; · iexact Hu
  isplitl [Ho]; · iexact Ho
  isplitl [Hp]; · iexact Hp
  iexact Hr

/-- The staging semaphores are no cell's, and below all a device owes. -/
theorem stage_level (c : Dev nD) (w : Fin 2) (s : Fin (spec0 w).nbuf) : lv ((c : Thread nD τ), .dma ((spec0 w).sem s)) () = 0 := by
  have h : ∀ (w : Fin 2) (s : Fin (spec0 w).nbuf) (i : Cell), cellSem i ≠ .dma ((spec0 w).sem s) := by decide +kernel
  have hn : cellOf (.dma ((spec0 w).sem s)) = none := List.find?_eq_none.mpr fun i _ => by simpa using h w s i
  unfold lv; rw [hn]; rfl

theorem waits (c : Dev nD) : (levAts L lv : sProp 𝕄) ⊢ Pipeline.cellsWaits cfgs (dats m) () 0 c :=
  Pipeline.cellsWaits_intro cfgs (dats m) () 0 c fun w s t => may_wait c _ _ (by
    have hl := stage_level c w s
    rw [show lv ((c : Thread nD τ), .dma ((cfg0.win w).sem s)) () = 0 from hl]
    rcases t with ⟨_ | _, ht⟩
    · exact above_owed c
    · exact above_zero 0)

/-! ## The run -/

/-- The contents of a window's array after the run. -/
def finalA (c : Dev nD) (w : Fin cfg0.W) : Buf (Elt F) ((cfg0.win w).arr.view.loc (c : Thread nD τ)) := (dats m 0 c).arrAt w cfg0.N

set_option maxRecDepth 8000 in
/-- From any memory with zero counters, every fair run of the sixteen devices ends, with every device's arrays at the
    contents computed for them and every counter at zero. -/
theorem run_main : θ_run defs (onTc (τ := τ) (main (F := F))) ⟨m, fun _ => 0, ρ⟩
    (fun r => (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) (EP F) defs₀ 𝒱₀ m ρ main
    (hmain := fun _ => rfl)
    (hbody := body_obligation m) (hne := block_pos0) (harr := arr_whole0) (hstage := stage_whole0) (hshare := share_eq m)
    (hdistinct := winFacts0.arr_inj)
    (O₀ := owed) (howed₀ := fun _ => rfl) (howedN := fun _ => rfl)
    (L := L) (lv := lv) (hL := L_of_ne) (hwaits := waits m)
    (G := given (staged m)) (G' := dealtOut (staged m)) (u₀ := launchElt)
    (hu₀ := by
      unfold launchElt
      iintro Hu
      ihave H := (ownU_pair _ _) $$ Hu
      icases H with ⟨HP, HX⟩
      imod (mint (staged m)) $$ HX with HG
      imodintro
      isplitl [HP] <;> iassumption)
    (hglob := deal_all (staged m))
    (hA := fun _ _ => rfl) (hpf := fun _ k => k.elim0)
    (X := atStart m) (Y := fun c => unscopedSems0 c) (Z := fun _ => iprop(emp))
    (hX := start_intro m ρ) (hin := point_intro m) (hout := point_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange

end
-- ==== Proof.Arrays.lean ====
/-
# The arrays after the run

The operand's array is only read; the result's array is written once, whole, with what the device computed. So the run
of `run_main` ends with the operands as they were and the results at the sums.
-/
module

public import proofs.«01_k».proof.Proof.Launch

@[expose] public section

noncomputable section

namespace Cert.Exchange

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ)

/-- The one block of the operand's array is the array, and so is that of the result's. -/
theorem operand_whole (f : S1x2048x2048.Idx → Elt F .f32) : (win0_0.blk (0 : Fin 1)).view.read (Elt F) f = f :=
  Memref.read_access_unit_zero (Elt F) main_arg0 (funext fun a => by fin_cases a <;> decide) (fun a => by fin_cases a <;> decide) f
theorem result_whole (f : S2048x512.Idx → Elt F .f32) : (win0_1.blk (0 : Fin 1)).view.read (Elt F) f = f :=
  Memref.read_access_unit_zero (Elt F) main_v1 (funext fun a => by fin_cases a <;> decide) (fun a => by fin_cases a <;> decide) f

/-- A device's operand as the memory holds it. -/
def held (c : Dev nD) : Operand F := m ((c : Thread nD τ).loc main_arg0)

theorem staged_eq : staged m = held m := funext fun _ => operand_whole _

theorem operand_kept (c : Dev nD) : finalA m c (0 : Fin 2) = held m c := (dats m 0 c).arrAt_in (0 : Fin 2) rfl _

theorem result_written (c : Dev nD) : finalA m c (1 : Fin 2) = result (held m) c := by
  refine (result_whole _).symm.trans ?_
  unfold finalA
  rw [show cfg0.N = ((0 : Fin 1) : Fin cfg0.N).val + 1 from rfl, (dats m 0 c).arrAt_succ (1 : Fin 2) (0 : Fin 1),
    if_pos (flush0_1 (0 : Fin 1)), ← staged_eq]
  exact View.read_write_univ _ _

/-- Every fair run ends with each device's result at the sums its column's bands made, its operand as it was, and every
    counter at zero. -/
theorem run_result (ρ : Dev nD → PrngReg) : θ_run defs (onTc (τ := τ) (main (F := F))) ⟨m, fun _ => 0, ρ⟩
    (fun r => (∀ c : Dev nD, r.2.mem ((c : Thread nD τ).loc main_v1) = result (held m) c
      ∧ r.2.mem ((c : Thread nD τ).loc main_arg0) = held m c) ∧ r.2.sem = fun _ => 0) :=
  (θ_run defs _ _).mono (fun _ h => ⟨fun c => ⟨(h.1 c (1 : Fin 2)).trans (result_written m c),
    (h.1 c (0 : Fin 2)).trans (operand_kept m c)⟩, h.2⟩) (run_main m ρ)

end Cert.Exchange

end
-- ==== Proof.Sum.lean ====
/-
# The sums in the reals

When device `c` holds matrix number `col c` of a stack of four, the four terms a device adds are the same element of the
four matrices, each once: the order they come in depends on the device, and exact addition does not see the order. So a
device's result is its 512 columns of the sum of the stack.
-/
module

public import proofs.«01_k».proof.Proof.Contents
public import Idealize.ShloMosaic.Lib.Layout
public import Idealize.ShloMosaic.PureOps.Ideal

@[expose] public section

noncomputable section

namespace Cert.Exchange

open Cert.KernelIdeal Cert.KernelIdeal.Gen
open Idealize.ShloMosaic Idealize.ShloMosaic.ValueIdx

/-- A stack of four square matrices, and one. -/
abbrev Stack : Type := (⟨3, ![4, 2048, 2048]⟩ : Shape).Idx → EReal
abbrev Square : Type := (⟨2, ![2048, 2048]⟩ : Shape).Idx → EReal

/-- The sum of a stack. -/
def stackSum (w : Stack) : Square := fun j => ∑ z : Fin 4, w (ix3 z (j 0) (j 1))

/-- The part of a stack that a device holds, and its part of a square. -/
def stackPart (w : Stack) (c : Dev nD) : Operand Ideal :=
  Layout.blockN ⟨3, ![1, 2048, 2048]⟩ ⟨3, ![4, 2048, 2048]⟩ (Layout.meshBlock [2, 2, 4] ![[2], [], []] c) w
def squarePart (v : Square) (c : Dev nD) : S2048x512.Idx → Elt Ideal .f32 :=
  Layout.blockN ⟨2, ![2048, 512]⟩ ⟨2, ![2048, 2048]⟩ (Layout.meshBlock [2, 2, 4] ![[], [2]] c) v

theorem stack_block : ∀ (c : Dev nD) (b : Fin 3), ((Layout.meshBlock [2, 2, 4] ![[2], [], []] c) b).val = ![(col c).val, 0, 0] b := by
  decide +kernel
theorem square_block : ∀ (c : Dev nD) (b : Fin 2), ((Layout.meshBlock [2, 2, 4] ![[], [2]] c) b).val = ![0, (col c).val] b := by
  decide +kernel

theorem stackPart_apply (w : Stack) (c : Dev nD) (r s : Fin 2048) : stackPart w c (ix3 0 r s) = w (ix3 (col c) r s) := by
  unfold stackPart
  rw [Layout.blockN_apply]
  congr 1
  funext b
  apply Fin.ext
  rw [Layout.TilesN.idx_val]
  refine (congrArg (· * _ + _) (stack_block c b)).trans ?_
  fin_cases b <;> simp

theorem squarePart_apply (v : Square) (c : Dev nD) (r : Fin 2048) (s : Fin 512) :
    squarePart v c (ix2 r s) = v (ix2 r ⟨512 * (col c).val + s.val, by omega⟩) := by
  unfold squarePart
  rw [Layout.blockN_apply]
  congr 1
  funext b
  apply Fin.ext
  rw [Layout.TilesN.idx_val]
  refine (congrArg (· * _ + _) (square_block c b)).trans ?_
  fin_cases b
  · simp
  · simp; omega

/-- The four columns a device's terms come from are the four columns. -/
theorem sum_columns (f : Fin 4 → EReal) (e : Dev nD) :
    f (col e) + f (col (go (back (false, 0)) e)) + f (col (go (back (false, 1)) e)) + f (col (go (back (false, 2)) e)) = ∑ z, f z := by
  have h : ∀ e : Dev nD, col (go (back (false, 0)) e) = col e + 3 ∧ col (go (back (false, 1)) e) = col e + 2
      ∧ col (go (back (false, 2)) e) = col e + 1 := by decide +kernel
  obtain ⟨h0, h1, h2⟩ := h e
  rw [h0, h1, h2, Fin.sum_univ_four]
  generalize col e = z
  fin_cases z <;> simp <;> abel

/-- Element `(a, b)` of half `h` of a device's own half partial, and of the one that slot `i` receives. -/
theorem own_term (w : Stack) (e : Dev nD) (h : Fin 2) (a : Fin 512) (b : Fin 256) : ownHalf (stackPart w) e h (ix2 a b)
    = w (ix3 (col e) ⟨512 * (band e).val + a.val, by omega⟩ ⟨512 * (col e).val + 256 * h.val + b.val, by omega⟩) := by
  refine Eq.trans ?_ (stackPart_apply w e _ _)
  refine Eq.trans ?_ (own_read e h (stackPart w e) a b)
  show xM.view.readAt (Elt Ideal) (ownRect e h).toLoadRect (stackPart w e) (Shape.reshapeEquiv _ (ix2 a b)) = _
  rw [reshapeEquiv_ix2_1ab]
  rfl

theorem part_term (w : Stack) (e : Dev nD) (i : Fin 3) (h : Fin 2) (a : Fin 512) (b : Fin 256) :
    partHalf (stackPart w) (go (back (false, i)) e) i h (ix2 a b)
    = w (ix3 (col (go (back (false, i)) e)) ⟨512 * (band e).val + a.val, by omega⟩ ⟨512 * (col e).val + 256 * h.val + b.val, by omega⟩) := by
  unfold partHalf
  rw [part_read, stackPart_apply]
  congr 2
  · exact Fin.ext (by show 512 * (band (go (false, Fin.rev i) e)).val + _ = _; rw [band_go_false])
  · exact Fin.ext (by show 512 * (col (go (false, i) (go (back (false, i)) e))).val + _ + _ = _; rw [go_go_back])

/-- A device's reduced block is the sum of the stack over its rows and its columns. -/
theorem total_sum (w : Stack) (e : Dev nD) (h : Fin 2) (a : Fin 512) (b : Fin 256) : total (stackPart w) e h (ix2 a b)
    = stackSum w (ix2 ⟨512 * (band e).val + a.val, by omega⟩ ⟨512 * (col e).val + 256 * h.val + b.val, by omega⟩) := by
  unfold stackSum
  rw [← sum_columns _ e]
  show ownHalf (stackPart w) e h (ix2 a b) + partHalf (stackPart w) (go (back (false, 0)) e) 0 h (ix2 a b)
    + partHalf (stackPart w) (go (back (false, 1)) e) 1 h (ix2 a b) + partHalf (stackPart w) (go (back (false, 2)) e) 2 h (ix2 a b) = _
  rw [own_term, part_term, part_term, part_term]

/-- A device's result is its columns of the sum. -/
theorem result_sum (w : Stack) (c : Dev nD) : result (stackPart w) c = squarePart (stackSum w) c := by
  funext j
  obtain ⟨r, s, rfl⟩ : ∃ (r : Fin 2048) (s : Fin 512), j = ix2 r s := ⟨j 0, j 1, by funext d; fin_cases d <;> rfl⟩
  rw [squarePart_apply]
  unfold result
  rw [total_sum]
  congr 2
  · exact Fin.ext (by simp only [(band_col _ _).1]; exact Nat.div_add_mod r.val 512)
  · exact Fin.ext (by simp only [(band_col _ _).2, Nat.add_assoc]; exact congrArg _ (Nat.div_add_mod s.val 256))

end Cert.Exchange

end
-- ==== Proof.Reference.lean ====
/-
# The run of the reference

The reference is two operations on one device: the constant zero and the sum of the stack over its leading axis starting
from it. In exact arithmetic its result is the sum of the stack.
-/
module

public import proofs.«01_k».proof.Proof.Gen.ReferenceIdeal
public import proofs.«01_k».proof.Proof.Sum
public import Idealize.ShloMosaic.Lib.IdealHost
public import Idealize.ShloMosaic.Lib.Pointwise.Reduce
public import Idealize.ShloMosaic.Lib.StableHlo.Run
public import Idealize.ShloMosaic.Lib.Quiescent

@[expose] public section

noncomputable section

namespace Cert.Exchange.Plain

open Cert.ReferenceIdeal Cert.ReferenceIdeal.Gen
open Idealize.ShloMosaic Idealize.ShloMosaic.TcCoe Idealize.ShloMosaic.StableHlo Idealize.ShloMosaic.ValueIdx Idealize.SL.Sem

/-- The sum over the leading axis, from an initial value; from the constant. -/
def sumFrom (x : FVec Ideal S4x2048x2048 .f32) (v : FVec Ideal S_ .f32) : FVec Ideal S2048x2048 .f32 :=
  Host.reduceAdd x v reducesTo_S4x2048x2048_S2048x2048_d0 h_S_
def leadingSum (x : FVec Ideal S4x2048x2048 .f32) : FVec Ideal S2048x2048 .f32 := sumFrom x (constant S_ .f32 0x00000000#32)

/-- The reference's two operations. -/
abbrev steps : List (HloOp τ sig (Elt Ideal)) :=
  [nullary main_cst (constant (F := Ideal) S_ .f32 0x00000000#32), binary main_arg0 main_cst main_v0 sumFrom]

theorem sum_after (V : Valuation τ sig (Elt Ideal)) :
    after steps V (main_v0 : DevRef τ sig) = leadingSum (V (main_arg0 : DevRef τ sig)) := by
  after_results
  rfl
theorem stack_after (V : Valuation τ sig (Elt Ideal)) : after steps V (main_arg0 : DevRef τ sig) = V (main_arg0 : DevRef τ sig) := by
  after_results

/-- In exact arithmetic the constant is zero and the order of the terms does not matter. -/
theorem leadingSum_eq (x : FVec Ideal S4x2048x2048 .f32) : leadingSum x = stackSum x := by
  funext j
  unfold leadingSum sumFrom
  rw [Host.reduceAdd_apply, Ideal.hostReduceAdd_def, Ideal.hostReduceAdd_r3_a0]
  have hz : (constant (F := Ideal) S_ .f32 0x00000000#32) (Shape.Idx.first h_S_) = 0 := by
    show Ideal.ofBits .f32 0x00000000#32 = 0
    simp [Ideal.ofBits, Ideal.ieee]
  rw [hz, zero_add]
  rfl

/-- Every run of the reference ends with the sum of the stack in its result, the stack as it was, every counter at zero. -/
theorem run (m : (ℓ : Loc nD τ sig) → Buf (Elt Ideal) ℓ) (ρ : Dev nD → PrngReg) :
    θ_run defs (onTc (τ := τ) (main (F := Ideal))) ⟨m, fun _ => 0, ρ⟩ (fun r =>
      (∀ c : Dev nD, r.2.mem ((c : Thread nD τ).loc main_v0) = stackSum (m ((c : Thread nD τ).loc main_arg0))
        ∧ r.2.mem ((c : Thread nD τ).loc main_arg0) = m ((c : Thread nD τ).loc main_arg0)) ∧ r.2.sem = fun _ => 0) :=
  (θ_run defs _ _).mono (fun r h => ⟨fun c => ⟨((h c main_v0).trans (sum_after _)).trans (leadingSum_eq _), (h c main_arg0).trans (stack_after _)⟩,
      sem_eq_zero_of_no_sems (by decide) r.2⟩)
    (run_seq (by decide) (by decide) defs main (fun _ => steps) (fun _ => rfl)
      (fun _ => ⟨nullary_bufs_sub .., binary_bufs_sub ..⟩) m ρ)

end Cert.Exchange.Plain

end
-- ==== Proof.lean ====
/-
# The claims

The exchange of sixteen devices against the plain sum. `Arrays.run_result` is the kernel's run over any float values: it
gives both of the kernel's frame claims (the idealized program is the same text, since no operation was rewritten) and,
in exact arithmetic, with `Sum.result_sum` and the reference's run, the equality.
-/
module

public import proofs.«01_k».proof.Defs
public import proofs.«01_k».proof.Proof.Gen.Kernel
public import proofs.«01_k».proof.Proof.Arrays
public import proofs.«01_k».proof.Proof.Reference

@[expose] public section

noncomputable section

namespace Cert.Proof

open Idealize.ShloMosaic Idealize.ShloMosaic.TcCoe Idealize.SL.Sem Cert.Exchange

/-- The kernel and its idealized program run the same body. -/
theorem body_same : Cert.Kernel.defs₀ (F := Bits) = Cert.KernelIdeal.defs₀ (F := Bits) := by
  unfold Cert.Kernel.defs₀ Cert.KernelIdeal.defs₀
  congr 1
  funext l i
  match l, i with
  | 0, (_, _) => rfl
theorem defs_same : Cert.Kernel.defs (F := Bits) = Cert.KernelIdeal.defs (F := Bits) := congrArg (Pipeline.defs _) body_same

theorem frame_kernel : Cert.quiescent_Kernel (hKernel := Cert.Kernel.Gen.facts) := fun m ρ _ => by
  rw [defs_same]
  exact (θ_run Cert.KernelIdeal.defs _ _).mono (fun _ h => ⟨fun c => (h.1 c).2, h.2⟩) (run_result (F := Bits) m ρ)

theorem frame_idealized : Cert.quiescent_KernelIdeal (hKernelIdeal := Cert.KernelIdeal.Gen.facts) := fun m ρ _ =>
  (θ_run Cert.KernelIdeal.defs _ _).mono (fun _ h => ⟨fun c => (h.1 c).2, h.2⟩) (run_result (F := Ideal) m ρ)

theorem frame_reference : Cert.quiescent_ReferenceIdeal (hReferenceIdeal := Cert.ReferenceIdeal.Gen.facts) := fun m ρ _ =>
  (θ_run Cert.ReferenceIdeal.defs _ _).mono (fun _ h => ⟨fun c => (h.1 c).2, h.2⟩) (Plain.run m ρ)

theorem equal_sums : Cert.algebraic_KernelIdeal_ReferenceIdeal (hKernelIdeal := Cert.KernelIdeal.Gen.facts)
    (hReferenceIdeal := Cert.ReferenceIdeal.Gen.facts) := by
  intro m ρ m' ρ' _ hm
  refine ⟨stackSum (m' (((0 : Dev Cert.ReferenceIdeal.nD) : Thread Cert.ReferenceIdeal.nD Cert.ReferenceIdeal.τ).loc Cert.ReferenceIdeal.main_arg0)), ?_, ?_⟩
  · have hx : held m = stackPart (m' (((0 : Dev Cert.ReferenceIdeal.nD) : Thread Cert.ReferenceIdeal.nD Cert.ReferenceIdeal.τ).loc
        Cert.ReferenceIdeal.main_arg0)) := funext hm
    refine (θ_run Cert.KernelIdeal.defs _ _).mono (fun _ h c => ⟨(h.1 c).1.trans ?_, (h.1 c).2⟩) (run_result (F := Ideal) m ρ)
    rw [hx]
    exact result_sum _ c
  · exact (θ_run Cert.ReferenceIdeal.defs _ _).mono (fun _ h => h.1 0) (Plain.run m' ρ')

theorem claim : Cert.Claim := ⟨Cert.Kernel.Gen.facts, Cert.KernelIdeal.Gen.facts, Cert.ReferenceIdeal.Gen.facts,
  frame_kernel, frame_idealized, frame_reference, trivial, equal_sums⟩

end Cert.Proof

end
